-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S1024x768 : Shape := ⟨2, ![1024, 768]⟩
abbrev S_ : Shape := ⟨0, ![]⟩
abbrev S2x512x8x64 : Shape := ⟨4, ![2, 512, 8, 64]⟩
abbrev S1984x768 : Shape := ⟨2, ![1984, 768]⟩
abbrev S2x256x768 : Shape := ⟨3, ![2, 256, 768]⟩
abbrev S20 : Shape := ⟨1, ![20]⟩
abbrev S512x512 : Shape := ⟨2, ![512, 512]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S256x768 : Shape := ⟨2, ![256, 768]⟩
abbrev S1x256x768 : Shape := ⟨3, ![1, 256, 768]⟩
abbrev S1 : Shape := ⟨1, ![1]⟩
abbrev S128x768 : Shape := ⟨2, ![128, 768]⟩
abbrev S1x128x768 : Shape := ⟨3, ![1, 128, 768]⟩
abbrev S64x768 : Shape := ⟨2, ![64, 768]⟩
abbrev S1x64x768 : Shape := ⟨3, ![1, 64, 768]⟩
abbrev S32x768 : Shape := ⟨2, ![32, 768]⟩
abbrev S1x32x768 : Shape := ⟨3, ![1, 32, 768]⟩
abbrev S16x768 : Shape := ⟨2, ![16, 768]⟩
abbrev S1x16x768 : Shape := ⟨3, ![1, 16, 768]⟩

abbrev nBuf : Space → Nat
  | .hbm => 38
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x256x64, .f32⟩
  | .hbm, ⟨3, _⟩ => ⟨S2x512x256x64, .f32⟩
  | .hbm, ⟨4, _⟩ => ⟨S512x768, .f32⟩
  | .hbm, ⟨5, _⟩ => ⟨S1024x768, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2x512x8x64, .f32⟩
  | .hbm, ⟨23, _⟩ => ⟨S2x512x8x64, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x512x8x64, .f32⟩
  | .hbm, ⟨35, _⟩ => ⟨S2x512x8x64, .bf16⟩
  | .hbm, ⟨36, _⟩ => ⟨S1024x768, .f32⟩
  | .hbm, ⟨37, _⟩ => ⟨S2x512x768, .f32⟩
  | .local _ .vmem, ⟨0, _⟩ => ⟨S1024x768, .f32⟩
  | .local _ .vmem, ⟨1, _⟩ => ⟨S768x512, .f32⟩
  | .local _ .vmem, ⟨2, _⟩ => ⟨S2x512x8x64, .bf16⟩
  | .local _ .vmem, ⟨3, _⟩ => ⟨S2x512x8x64, .bf16⟩
  | .local _ .vmem, ⟨4, _⟩ => ⟨S512x768, .f32⟩
  | .local _ .vmem, ⟨5, _⟩ => ⟨S1024x768, .f32⟩
  | .local _ .vmem, ⟨6, _⟩ => ⟨S1984x768, .bf16⟩
  | .local _ .vmem, ⟨7, _⟩ => ⟨S2x256x768, .bf16⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_102 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_31 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v46 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.xori v68 v81
  let v83 : BitVec 32 := Scalar.addi v71 v82
  let c1_i32_101 : BitVec 32 := 1#32
  let v203 : BitVec 32 := Scalar.muli v83 c1_i32_101
  let v204 : BitVec 32 := Scalar.addi c0_i32_102 v203
  v204.toNat
def k0_dev2 (d0 : Dev nD) : Nat :=
  let c0_i32_105 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v95 : BitVec 32 := Scalar.muli c8_i32_45 v19
  let c2_i32_46 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_44 : BitVec 32 := 1#32
  let v94 : BitVec 32 := Scalar.xori v46 c1_i32_44
  let v96 : BitVec 32 := Scalar.muli c2_i32_46 v94
  let v97 : BitVec 32 := Scalar.addi v95 v96
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_47 : BitVec 32 := 2#32
  let c0_i32_48 : BitVec 32 := 0#32
  let v98 : BitVec 1 := Scalar.cmpi .eq c2_i32_47 c0_i32_48
  let c1_i32_49 : BitVec 32 := 1#32
  let v99 : BitVec 32 := Scalar.select v98 c1_i32_49 c2_i32_47
  let v100 : BitVec 32 := Scalar.remsi v94 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let v108 : BitVec 32 := Scalar.xori v67 v107
  let v109 : BitVec 32 := Scalar.addi v97 v108
  let c1_i32_104 : BitVec 32 := 1#32
  let v205 : BitVec 32 := Scalar.muli v109 c1_i32_104
  let v206 : BitVec 32 := Scalar.addi c0_i32_105 v205
  v206.toNat
def k0_dev3 (d0 : Dev nD) : Nat :=
  let c0_i32_108 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_59 : BitVec 32 := 1#32
  let v120 : BitVec 32 := Scalar.xori v19 c1_i32_59
  let v121 : BitVec 32 := Scalar.muli c8_i32_60 v120
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v122 : BitVec 32 := Scalar.muli c2_i32_61 v46
  let v123 : BitVec 32 := Scalar.addi v121 v122
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_62 : BitVec 32 := 2#32
  let c0_i32_63 : BitVec 32 := 0#32
  let v124 : BitVec 1 := Scalar.cmpi .eq c2_i32_62 c0_i32_63
  let c1_i32_64 : BitVec 32 := 1#32
  let v125 : BitVec 32 := Scalar.select v124 c1_i32_64 c2_i32_62
  let v126 : BitVec 32 := Scalar.remsi v46 v125
  let c0_i32_66 : BitVec 32 := 0#32
  let v128 : BitVec 1 := Scalar.cmpi .slt v126 c0_i32_66
  let c0_i32_67 : BitVec 32 := 0#32
  let v129 : BitVec 1 := Scalar.cmpi .slt v125 c0_i32_67
  let v130 : BitVec 1 := Scalar.xori v128 v129
  let c0_i32_65 : BitVec 32 := 0#32
  let v127 : BitVec 1 := Scalar.cmpi .ne v126 c0_i32_65
  let v131 : BitVec 1 := Scalar.andi v130 v127
  let v132 : BitVec 32 := Scalar.addi v126 v125
  let v133 : BitVec 32 := Scalar.select v131 v132 v126
  let v134 : BitVec 32 := Scalar.xori v67 v133
  let v135 : BitVec 32 := Scalar.addi v123 v134
  let c1_i32_107 : BitVec 32 := 1#32
  let v207 : BitVec 32 := Scalar.muli v135 c1_i32_107
  let v208 : BitVec 32 := Scalar.addi c0_i32_108 v207
  v208.toNat
def k0_dev4 (d0 : Dev nD) : Nat :=
  let c0_i32_111 : BitVec 32 := 0#32
  let c8_i32_76 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v154 : BitVec 32 := Scalar.muli c8_i32_76 v19
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_75 : BitVec 32 := 2#32
  let v153 : BitVec 32 := Scalar.xori v46 c2_i32_75
  let v155 : BitVec 32 := Scalar.muli c2_i32_77 v153
  let v156 : BitVec 32 := Scalar.addi v154 v155
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_78 : BitVec 32 := 2#32
  let c0_i32_79 : BitVec 32 := 0#32
  let v157 : BitVec 1 := Scalar.cmpi .eq c2_i32_78 c0_i32_79
  let c1_i32_80 : BitVec 32 := 1#32
  let v158 : BitVec 32 := Scalar.select v157 c1_i32_80 c2_i32_78
  let v159 : BitVec 32 := Scalar.remsi v153 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let v167 : BitVec 32 := Scalar.xori v67 v166
  let v168 : BitVec 32 := Scalar.addi v156 v167
  let c1_i32_110 : BitVec 32 := 1#32
  let v209 : BitVec 32 := Scalar.muli v168 c1_i32_110
  let v210 : BitVec 32 := Scalar.addi c0_i32_111 v209
  v210.toNat
def k0_dev5 (d0 : Dev nD) : Nat :=
  let c0_i32_114 : BitVec 32 := 0#32
  let c8_i32_92 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_91 : BitVec 32 := 2#32
  let v186 : BitVec 32 := Scalar.xori v19 c2_i32_91
  let v187 : BitVec 32 := Scalar.muli c8_i32_92 v186
  let c2_i32_93 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v188 : BitVec 32 := Scalar.muli c2_i32_93 v46
  let v189 : BitVec 32 := Scalar.addi v187 v188
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_94 : BitVec 32 := 2#32
  let c0_i32_95 : BitVec 32 := 0#32
  let v190 : BitVec 1 := Scalar.cmpi .eq c2_i32_94 c0_i32_95
  let c1_i32_96 : BitVec 32 := 1#32
  let v191 : BitVec 32 := Scalar.select v190 c1_i32_96 c2_i32_94
  let v192 : BitVec 32 := Scalar.remsi v46 v191
  let c0_i32_98 : BitVec 32 := 0#32
  let v194 : BitVec 1 := Scalar.cmpi .slt v192 c0_i32_98
  let c0_i32_99 : BitVec 32 := 0#32
  let v195 : BitVec 1 := Scalar.cmpi .slt v191 c0_i32_99
  let v196 : BitVec 1 := Scalar.xori v194 v195
  let c0_i32_97 : BitVec 32 := 0#32
  let v193 : BitVec 1 := Scalar.cmpi .ne v192 c0_i32_97
  let v197 : BitVec 1 := Scalar.andi v196 v193
  let v198 : BitVec 32 := Scalar.addi v192 v191
  let v199 : BitVec 32 := Scalar.select v197 v198 v192
  let v200 : BitVec 32 := Scalar.xori v67 v199
  let v201 : BitVec 32 := Scalar.addi v189 v200
  let c1_i32_113 : BitVec 32 := 1#32
  let v211 : BitVec 32 := Scalar.muli v201 c1_i32_113
  let v212 : BitVec 32 := Scalar.addi c0_i32_114 v211
  v212.toNat
def k0_mult1 (d0 : Dev nD) : BitVec 32 :=
  let c0_i32_363 : BitVec 32 := 0#32
  let c1_i32_362 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v636 : BitVec 32 := Scalar.subi c1_i32_362 v67
  let c256_i32 : BitVec 32 := 256#32
  let v637 : BitVec 32 := Scalar.muli v636 c256_i32
  let v638 : BitVec 32 := Scalar.addi c0_i32_363 v637
  v638
def k0_off1 (d0 : Dev nD) : Fin 2 → Nat :=
  let c0_i32_363 : BitVec 32 := 0#32
  let c1_i32_362 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v636 : BitVec 32 := Scalar.subi c1_i32_362 v67
  let c256_i32 : BitVec 32 := 256#32
  let v637 : BitVec 32 := Scalar.muli v636 c256_i32
  let v638 : BitVec 32 := Scalar.addi c0_i32_363 v637
  let v639 : BitVec 32 := v638
  let v640 : Index := Scalar.indexCast v639
  let c0_364 : Index := 0#32
  ![v640.toNat, 0]
def k0_dev6 (d0 : Dev nD) : Nat :=
  let c0_i32_372 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_31 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v46 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.xori v68 v81
  let v83 : BitVec 32 := Scalar.addi v71 v82
  let c1_i32_371 : BitVec 32 := 1#32
  let v647 : BitVec 32 := Scalar.muli v83 c1_i32_371
  let v648 : BitVec 32 := Scalar.addi c0_i32_372 v647
  v648.toNat
def k0_mult2 (d0 : Dev nD) : BitVec 32 :=
  let c512_i32 : BitVec 32 := 512#32
  let c1_i32_379 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let v658 : BitVec 32 := Scalar.subi c1_i32_379 v93
  let c256_i32_380 : BitVec 32 := 256#32
  let v659 : BitVec 32 := Scalar.muli v658 c256_i32_380
  let v660 : BitVec 32 := Scalar.addi c512_i32 v659
  v660
def k0_off2 (d0 : Dev nD) : Fin 2 → Nat :=
  let c512_i32 : BitVec 32 := 512#32
  let c1_i32_379 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let v658 : BitVec 32 := Scalar.subi c1_i32_379 v93
  let c256_i32_380 : BitVec 32 := 256#32
  let v659 : BitVec 32 := Scalar.muli v658 c256_i32_380
  let v660 : BitVec 32 := Scalar.addi c512_i32 v659
  let v661 : BitVec 32 := v660
  let v662 : Index := Scalar.indexCast v661
  let c0_381 : Index := 0#32
  ![v662.toNat, 0]
def k0_dev7 (d0 : Dev nD) : Nat :=
  let c0_i32_389 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v95 : BitVec 32 := Scalar.muli c8_i32_45 v19
  let c2_i32_46 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_44 : BitVec 32 := 1#32
  let v94 : BitVec 32 := Scalar.xori v46 c1_i32_44
  let v96 : BitVec 32 := Scalar.muli c2_i32_46 v94
  let v97 : BitVec 32 := Scalar.addi v95 v96
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_47 : BitVec 32 := 2#32
  let c0_i32_48 : BitVec 32 := 0#32
  let v98 : BitVec 1 := Scalar.cmpi .eq c2_i32_47 c0_i32_48
  let c1_i32_49 : BitVec 32 := 1#32
  let v99 : BitVec 32 := Scalar.select v98 c1_i32_49 c2_i32_47
  let v100 : BitVec 32 := Scalar.remsi v94 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let v108 : BitVec 32 := Scalar.xori v67 v107
  let v109 : BitVec 32 := Scalar.addi v97 v108
  let c1_i32_388 : BitVec 32 := 1#32
  let v669 : BitVec 32 := Scalar.muli v109 c1_i32_388
  let v670 : BitVec 32 := Scalar.addi c0_i32_389 v669
  v670.toNat
def k0_mult3 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  v657
def k0_off3 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let v692 : BitVec 32 := v657
  let v693 : Index := Scalar.indexCast v692
  let c0_412 : Index := 0#32
  ![v693.toNat, 0]
def k0_mult4 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  v679
def k0_off4 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let v713 : BitVec 32 := v679
  let v714 : Index := Scalar.indexCast v713
  let c0_433 : Index := 0#32
  ![v714.toNat, 0]
def k0_mult5 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c1_i32_436 : BitVec 32 := 1#32
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let v722 : BitVec 32 := Scalar.subi c1_i32_436 v93
  let c128_i32 : BitVec 32 := 128#32
  let v723 : BitVec 32 := Scalar.muli v722 c128_i32
  let v724 : BitVec 32 := Scalar.addi v657 v723
  v724
def k0_off5 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c1_i32_436 : BitVec 32 := 1#32
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let v722 : BitVec 32 := Scalar.subi c1_i32_436 v93
  let c128_i32 : BitVec 32 := 128#32
  let v723 : BitVec 32 := Scalar.muli v722 c128_i32
  let v724 : BitVec 32 := Scalar.addi v657 v723
  let v725 : BitVec 32 := v724
  let v726 : Index := Scalar.indexCast v725
  let c0_437 : Index := 0#32
  ![v726.toNat, 0]
def k0_dev8 (d0 : Dev nD) : Nat :=
  let c0_i32_445 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v95 : BitVec 32 := Scalar.muli c8_i32_45 v19
  let c2_i32_46 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_44 : BitVec 32 := 1#32
  let v94 : BitVec 32 := Scalar.xori v46 c1_i32_44
  let v96 : BitVec 32 := Scalar.muli c2_i32_46 v94
  let v97 : BitVec 32 := Scalar.addi v95 v96
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_47 : BitVec 32 := 2#32
  let c0_i32_48 : BitVec 32 := 0#32
  let v98 : BitVec 1 := Scalar.cmpi .eq c2_i32_47 c0_i32_48
  let c1_i32_49 : BitVec 32 := 1#32
  let v99 : BitVec 32 := Scalar.select v98 c1_i32_49 c2_i32_47
  let v100 : BitVec 32 := Scalar.remsi v94 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let v108 : BitVec 32 := Scalar.xori v67 v107
  let v109 : BitVec 32 := Scalar.addi v97 v108
  let c1_i32_444 : BitVec 32 := 1#32
  let v733 : BitVec 32 := Scalar.muli v109 c1_i32_444
  let v734 : BitVec 32 := Scalar.addi c0_i32_445 v733
  v734.toNat
def k0_mult6 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c1_i32_451 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let v744 : BitVec 32 := Scalar.subi c1_i32_451 v119
  let c128_i32_452 : BitVec 32 := 128#32
  let v745 : BitVec 32 := Scalar.muli v744 c128_i32_452
  let v746 : BitVec 32 := Scalar.addi v679 v745
  v746
def k0_off6 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c1_i32_451 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let v744 : BitVec 32 := Scalar.subi c1_i32_451 v119
  let c128_i32_452 : BitVec 32 := 128#32
  let v745 : BitVec 32 := Scalar.muli v744 c128_i32_452
  let v746 : BitVec 32 := Scalar.addi v679 v745
  let v747 : BitVec 32 := v746
  let v748 : Index := Scalar.indexCast v747
  let c0_453 : Index := 0#32
  ![v748.toNat, 0]
def k0_dev9 (d0 : Dev nD) : Nat :=
  let c0_i32_460 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_59 : BitVec 32 := 1#32
  let v120 : BitVec 32 := Scalar.xori v19 c1_i32_59
  let v121 : BitVec 32 := Scalar.muli c8_i32_60 v120
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v122 : BitVec 32 := Scalar.muli c2_i32_61 v46
  let v123 : BitVec 32 := Scalar.addi v121 v122
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_62 : BitVec 32 := 2#32
  let c0_i32_63 : BitVec 32 := 0#32
  let v124 : BitVec 1 := Scalar.cmpi .eq c2_i32_62 c0_i32_63
  let c1_i32_64 : BitVec 32 := 1#32
  let v125 : BitVec 32 := Scalar.select v124 c1_i32_64 c2_i32_62
  let v126 : BitVec 32 := Scalar.remsi v46 v125
  let c0_i32_66 : BitVec 32 := 0#32
  let v128 : BitVec 1 := Scalar.cmpi .slt v126 c0_i32_66
  let c0_i32_67 : BitVec 32 := 0#32
  let v129 : BitVec 1 := Scalar.cmpi .slt v125 c0_i32_67
  let v130 : BitVec 1 := Scalar.xori v128 v129
  let c0_i32_65 : BitVec 32 := 0#32
  let v127 : BitVec 1 := Scalar.cmpi .ne v126 c0_i32_65
  let v131 : BitVec 1 := Scalar.andi v130 v127
  let v132 : BitVec 32 := Scalar.addi v126 v125
  let v133 : BitVec 32 := Scalar.select v131 v132 v126
  let v134 : BitVec 32 := Scalar.xori v67 v133
  let v135 : BitVec 32 := Scalar.addi v123 v134
  let c1_i32_459 : BitVec 32 := 1#32
  let v755 : BitVec 32 := Scalar.muli v135 c1_i32_459
  let v756 : BitVec 32 := Scalar.addi c0_i32_460 v755
  v756.toNat
def k0_mult7 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  v743
def k0_off7 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let v778 : BitVec 32 := v743
  let v779 : Index := Scalar.indexCast v778
  let c0_482 : Index := 0#32
  ![v779.toNat, 0]
def k0_mult8 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  v765
def k0_off8 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let v799 : BitVec 32 := v765
  let v800 : Index := Scalar.indexCast v799
  let c0_502 : Index := 0#32
  ![v800.toNat, 0]
def k0_mult9 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c1_i32_505 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let v808 : BitVec 32 := Scalar.subi c1_i32_505 v119
  let c64_i32_506 : BitVec 32 := 64#32
  let v809 : BitVec 32 := Scalar.muli v808 c64_i32_506
  let v810 : BitVec 32 := Scalar.addi v743 v809
  v810
def k0_off9 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c1_i32_505 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let v808 : BitVec 32 := Scalar.subi c1_i32_505 v119
  let c64_i32_506 : BitVec 32 := 64#32
  let v809 : BitVec 32 := Scalar.muli v808 c64_i32_506
  let v810 : BitVec 32 := Scalar.addi v743 v809
  let v811 : BitVec 32 := v810
  let v812 : Index := Scalar.indexCast v811
  let c0_507 : Index := 0#32
  ![v812.toNat, 0]
def k0_dev10 (d0 : Dev nD) : Nat :=
  let c0_i32_514 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_59 : BitVec 32 := 1#32
  let v120 : BitVec 32 := Scalar.xori v19 c1_i32_59
  let v121 : BitVec 32 := Scalar.muli c8_i32_60 v120
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v122 : BitVec 32 := Scalar.muli c2_i32_61 v46
  let v123 : BitVec 32 := Scalar.addi v121 v122
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_62 : BitVec 32 := 2#32
  let c0_i32_63 : BitVec 32 := 0#32
  let v124 : BitVec 1 := Scalar.cmpi .eq c2_i32_62 c0_i32_63
  let c1_i32_64 : BitVec 32 := 1#32
  let v125 : BitVec 32 := Scalar.select v124 c1_i32_64 c2_i32_62
  let v126 : BitVec 32 := Scalar.remsi v46 v125
  let c0_i32_66 : BitVec 32 := 0#32
  let v128 : BitVec 1 := Scalar.cmpi .slt v126 c0_i32_66
  let c0_i32_67 : BitVec 32 := 0#32
  let v129 : BitVec 1 := Scalar.cmpi .slt v125 c0_i32_67
  let v130 : BitVec 1 := Scalar.xori v128 v129
  let c0_i32_65 : BitVec 32 := 0#32
  let v127 : BitVec 1 := Scalar.cmpi .ne v126 c0_i32_65
  let v131 : BitVec 1 := Scalar.andi v130 v127
  let v132 : BitVec 32 := Scalar.addi v126 v125
  let v133 : BitVec 32 := Scalar.select v131 v132 v126
  let v134 : BitVec 32 := Scalar.xori v67 v133
  let v135 : BitVec 32 := Scalar.addi v123 v134
  let c1_i32_513 : BitVec 32 := 1#32
  let v819 : BitVec 32 := Scalar.muli v135 c1_i32_513
  let v820 : BitVec 32 := Scalar.addi c0_i32_514 v819
  v820.toNat
def k0_mult10 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c1_i32_519 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v830 : BitVec 32 := Scalar.subi c1_i32_519 v67
  let c64_i32_520 : BitVec 32 := 64#32
  let v831 : BitVec 32 := Scalar.muli v830 c64_i32_520
  let v832 : BitVec 32 := Scalar.addi v765 v831
  v832
def k0_off10 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c1_i32_519 : BitVec 32 := 1#32
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let v830 : BitVec 32 := Scalar.subi c1_i32_519 v67
  let c64_i32_520 : BitVec 32 := 64#32
  let v831 : BitVec 32 := Scalar.muli v830 c64_i32_520
  let v832 : BitVec 32 := Scalar.addi v765 v831
  let v833 : BitVec 32 := v832
  let v834 : Index := Scalar.indexCast v833
  let c0_521 : Index := 0#32
  ![v834.toNat, 0]
def k0_dev11 (d0 : Dev nD) : Nat :=
  let c0_i32_529 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_31 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v46 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.xori v68 v81
  let v83 : BitVec 32 := Scalar.addi v71 v82
  let c1_i32_528 : BitVec 32 := 1#32
  let v841 : BitVec 32 := Scalar.muli v83 c1_i32_528
  let v842 : BitVec 32 := Scalar.addi c0_i32_529 v841
  v842.toNat
def k0_mult11 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  v829
def k0_off11 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let v864 : BitVec 32 := v829
  let v865 : Index := Scalar.indexCast v864
  let c0_551 : Index := 0#32
  ![v865.toNat, 0]
def k0_mult12 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  v851
def k0_off12 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let v885 : BitVec 32 := v851
  let v886 : Index := Scalar.indexCast v885
  let c0_571 : Index := 0#32
  ![v886.toNat, 0]
def k0_mult13 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c1_i32_574 : BitVec 32 := 1#32
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let v894 : BitVec 32 := Scalar.subi c1_i32_574 v152
  let c32_i32_575 : BitVec 32 := 32#32
  let v895 : BitVec 32 := Scalar.muli v894 c32_i32_575
  let v896 : BitVec 32 := Scalar.addi v829 v895
  v896
def k0_off13 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c1_i32_574 : BitVec 32 := 1#32
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let v894 : BitVec 32 := Scalar.subi c1_i32_574 v152
  let c32_i32_575 : BitVec 32 := 32#32
  let v895 : BitVec 32 := Scalar.muli v894 c32_i32_575
  let v896 : BitVec 32 := Scalar.addi v829 v895
  let v897 : BitVec 32 := v896
  let v898 : Index := Scalar.indexCast v897
  let c0_576 : Index := 0#32
  ![v898.toNat, 0]
def k0_dev12 (d0 : Dev nD) : Nat :=
  let c0_i32_583 : BitVec 32 := 0#32
  let c8_i32_76 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v154 : BitVec 32 := Scalar.muli c8_i32_76 v19
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_75 : BitVec 32 := 2#32
  let v153 : BitVec 32 := Scalar.xori v46 c2_i32_75
  let v155 : BitVec 32 := Scalar.muli c2_i32_77 v153
  let v156 : BitVec 32 := Scalar.addi v154 v155
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_78 : BitVec 32 := 2#32
  let c0_i32_79 : BitVec 32 := 0#32
  let v157 : BitVec 1 := Scalar.cmpi .eq c2_i32_78 c0_i32_79
  let c1_i32_80 : BitVec 32 := 1#32
  let v158 : BitVec 32 := Scalar.select v157 c1_i32_80 c2_i32_78
  let v159 : BitVec 32 := Scalar.remsi v153 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let v167 : BitVec 32 := Scalar.xori v67 v166
  let v168 : BitVec 32 := Scalar.addi v156 v167
  let c1_i32_582 : BitVec 32 := 1#32
  let v905 : BitVec 32 := Scalar.muli v168 c1_i32_582
  let v906 : BitVec 32 := Scalar.addi c0_i32_583 v905
  v906.toNat
def k0_mult14 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c1_i32_588 : BitVec 32 := 1#32
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let v916 : BitVec 32 := Scalar.subi c1_i32_588 v185
  let c32_i32_589 : BitVec 32 := 32#32
  let v917 : BitVec 32 := Scalar.muli v916 c32_i32_589
  let v918 : BitVec 32 := Scalar.addi v851 v917
  v918
def k0_off14 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c1_i32_588 : BitVec 32 := 1#32
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let v916 : BitVec 32 := Scalar.subi c1_i32_588 v185
  let c32_i32_589 : BitVec 32 := 32#32
  let v917 : BitVec 32 := Scalar.muli v916 c32_i32_589
  let v918 : BitVec 32 := Scalar.addi v851 v917
  let v919 : BitVec 32 := v918
  let v920 : Index := Scalar.indexCast v919
  let c0_590 : Index := 0#32
  ![v920.toNat, 0]
def k0_dev13 (d0 : Dev nD) : Nat :=
  let c0_i32_597 : BitVec 32 := 0#32
  let c8_i32_92 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_91 : BitVec 32 := 2#32
  let v186 : BitVec 32 := Scalar.xori v19 c2_i32_91
  let v187 : BitVec 32 := Scalar.muli c8_i32_92 v186
  let c2_i32_93 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v188 : BitVec 32 := Scalar.muli c2_i32_93 v46
  let v189 : BitVec 32 := Scalar.addi v187 v188
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_94 : BitVec 32 := 2#32
  let c0_i32_95 : BitVec 32 := 0#32
  let v190 : BitVec 1 := Scalar.cmpi .eq c2_i32_94 c0_i32_95
  let c1_i32_96 : BitVec 32 := 1#32
  let v191 : BitVec 32 := Scalar.select v190 c1_i32_96 c2_i32_94
  let v192 : BitVec 32 := Scalar.remsi v46 v191
  let c0_i32_98 : BitVec 32 := 0#32
  let v194 : BitVec 1 := Scalar.cmpi .slt v192 c0_i32_98
  let c0_i32_99 : BitVec 32 := 0#32
  let v195 : BitVec 1 := Scalar.cmpi .slt v191 c0_i32_99
  let v196 : BitVec 1 := Scalar.xori v194 v195
  let c0_i32_97 : BitVec 32 := 0#32
  let v193 : BitVec 1 := Scalar.cmpi .ne v192 c0_i32_97
  let v197 : BitVec 1 := Scalar.andi v196 v193
  let v198 : BitVec 32 := Scalar.addi v192 v191
  let v199 : BitVec 32 := Scalar.select v197 v198 v192
  let v200 : BitVec 32 := Scalar.xori v67 v199
  let v201 : BitVec 32 := Scalar.addi v189 v200
  let c1_i32_596 : BitVec 32 := 1#32
  let v927 : BitVec 32 := Scalar.muli v201 c1_i32_596
  let v928 : BitVec 32 := Scalar.addi c0_i32_597 v927
  v928.toNat
def k0_mult15 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  v915
def k0_off15 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let v950 : BitVec 32 := v915
  let v951 : Index := Scalar.indexCast v950
  let c0_619 : Index := 0#32
  ![v951.toNat, 0]
def k0_mult16 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  v937
def k0_off16 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let v971 : BitVec 32 := v937
  let v972 : Index := Scalar.indexCast v971
  let c0_639 : Index := 0#32
  ![v972.toNat, 0]
def k0_mult17 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c1_i32_642 : BitVec 32 := 1#32
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let v980 : BitVec 32 := Scalar.subi c1_i32_642 v185
  let c16_i32 : BitVec 32 := 16#32
  let v981 : BitVec 32 := Scalar.muli v980 c16_i32
  let v982 : BitVec 32 := Scalar.addi v915 v981
  v982
def k0_off17 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c1_i32_642 : BitVec 32 := 1#32
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let v980 : BitVec 32 := Scalar.subi c1_i32_642 v185
  let c16_i32 : BitVec 32 := 16#32
  let v981 : BitVec 32 := Scalar.muli v980 c16_i32
  let v982 : BitVec 32 := Scalar.addi v915 v981
  let v983 : BitVec 32 := v982
  let v984 : Index := Scalar.indexCast v983
  let c0_643 : Index := 0#32
  ![v984.toNat, 0]
def k0_dev14 (d0 : Dev nD) : Nat :=
  let c0_i32_651 : BitVec 32 := 0#32
  let c8_i32_92 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_91 : BitVec 32 := 2#32
  let v186 : BitVec 32 := Scalar.xori v19 c2_i32_91
  let v187 : BitVec 32 := Scalar.muli c8_i32_92 v186
  let c2_i32_93 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v188 : BitVec 32 := Scalar.muli c2_i32_93 v46
  let v189 : BitVec 32 := Scalar.addi v187 v188
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_94 : BitVec 32 := 2#32
  let c0_i32_95 : BitVec 32 := 0#32
  let v190 : BitVec 1 := Scalar.cmpi .eq c2_i32_94 c0_i32_95
  let c1_i32_96 : BitVec 32 := 1#32
  let v191 : BitVec 32 := Scalar.select v190 c1_i32_96 c2_i32_94
  let v192 : BitVec 32 := Scalar.remsi v46 v191
  let c0_i32_98 : BitVec 32 := 0#32
  let v194 : BitVec 1 := Scalar.cmpi .slt v192 c0_i32_98
  let c0_i32_99 : BitVec 32 := 0#32
  let v195 : BitVec 1 := Scalar.cmpi .slt v191 c0_i32_99
  let v196 : BitVec 1 := Scalar.xori v194 v195
  let c0_i32_97 : BitVec 32 := 0#32
  let v193 : BitVec 1 := Scalar.cmpi .ne v192 c0_i32_97
  let v197 : BitVec 1 := Scalar.andi v196 v193
  let v198 : BitVec 32 := Scalar.addi v192 v191
  let v199 : BitVec 32 := Scalar.select v197 v198 v192
  let v200 : BitVec 32 := Scalar.xori v67 v199
  let v201 : BitVec 32 := Scalar.addi v189 v200
  let c1_i32_650 : BitVec 32 := 1#32
  let v991 : BitVec 32 := Scalar.muli v201 c1_i32_650
  let v992 : BitVec 32 := Scalar.addi c0_i32_651 v991
  v992.toNat
def k0_mult18 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c1_i32_656 : BitVec 32 := 1#32
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let v1002 : BitVec 32 := Scalar.subi c1_i32_656 v152
  let c16_i32_657 : BitVec 32 := 16#32
  let v1003 : BitVec 32 := Scalar.muli v1002 c16_i32_657
  let v1004 : BitVec 32 := Scalar.addi v937 v1003
  v1004
def k0_off18 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c1_i32_656 : BitVec 32 := 1#32
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let v1002 : BitVec 32 := Scalar.subi c1_i32_656 v152
  let c16_i32_657 : BitVec 32 := 16#32
  let v1003 : BitVec 32 := Scalar.muli v1002 c16_i32_657
  let v1004 : BitVec 32 := Scalar.addi v937 v1003
  let v1005 : BitVec 32 := v1004
  let v1006 : Index := Scalar.indexCast v1005
  let c0_658 : Index := 0#32
  ![v1006.toNat, 0]
def k0_dev15 (d0 : Dev nD) : Nat :=
  let c0_i32_665 : BitVec 32 := 0#32
  let c8_i32_76 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v154 : BitVec 32 := Scalar.muli c8_i32_76 v19
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_75 : BitVec 32 := 2#32
  let v153 : BitVec 32 := Scalar.xori v46 c2_i32_75
  let v155 : BitVec 32 := Scalar.muli c2_i32_77 v153
  let v156 : BitVec 32 := Scalar.addi v154 v155
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_78 : BitVec 32 := 2#32
  let c0_i32_79 : BitVec 32 := 0#32
  let v157 : BitVec 1 := Scalar.cmpi .eq c2_i32_78 c0_i32_79
  let c1_i32_80 : BitVec 32 := 1#32
  let v158 : BitVec 32 := Scalar.select v157 c1_i32_80 c2_i32_78
  let v159 : BitVec 32 := Scalar.remsi v153 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let v167 : BitVec 32 := Scalar.xori v67 v166
  let v168 : BitVec 32 := Scalar.addi v156 v167
  let c1_i32_664 : BitVec 32 := 1#32
  let v1013 : BitVec 32 := Scalar.muli v168 c1_i32_664
  let v1014 : BitVec 32 := Scalar.addi c0_i32_665 v1013
  v1014.toNat
def k0_mult19 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  v1001
def k0_off19 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let v1036 : BitVec 32 := v1001
  let v1037 : Index := Scalar.indexCast v1036
  let c0_687 : Index := 0#32
  ![v1037.toNat, 0]
def k0_mult20 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  v1023
def k0_off20 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let v1057 : BitVec 32 := v1023
  let v1058 : Index := Scalar.indexCast v1057
  let c0_707 : Index := 0#32
  ![v1058.toNat, 0]
def k0_mult21 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  v1001
def k0_dev16 (d0 : Dev nD) : Nat :=
  let c0_i32_717 : BitVec 32 := 0#32
  let c8_i32_92 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_91 : BitVec 32 := 2#32
  let v186 : BitVec 32 := Scalar.xori v19 c2_i32_91
  let v187 : BitVec 32 := Scalar.muli c8_i32_92 v186
  let c2_i32_93 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v188 : BitVec 32 := Scalar.muli c2_i32_93 v46
  let v189 : BitVec 32 := Scalar.addi v187 v188
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_94 : BitVec 32 := 2#32
  let c0_i32_95 : BitVec 32 := 0#32
  let v190 : BitVec 1 := Scalar.cmpi .eq c2_i32_94 c0_i32_95
  let c1_i32_96 : BitVec 32 := 1#32
  let v191 : BitVec 32 := Scalar.select v190 c1_i32_96 c2_i32_94
  let v192 : BitVec 32 := Scalar.remsi v46 v191
  let c0_i32_98 : BitVec 32 := 0#32
  let v194 : BitVec 1 := Scalar.cmpi .slt v192 c0_i32_98
  let c0_i32_99 : BitVec 32 := 0#32
  let v195 : BitVec 1 := Scalar.cmpi .slt v191 c0_i32_99
  let v196 : BitVec 1 := Scalar.xori v194 v195
  let c0_i32_97 : BitVec 32 := 0#32
  let v193 : BitVec 1 := Scalar.cmpi .ne v192 c0_i32_97
  let v197 : BitVec 1 := Scalar.andi v196 v193
  let v198 : BitVec 32 := Scalar.addi v192 v191
  let v199 : BitVec 32 := Scalar.select v197 v198 v192
  let v200 : BitVec 32 := Scalar.xori v67 v199
  let v201 : BitVec 32 := Scalar.addi v189 v200
  let c1_i32_716 : BitVec 32 := 1#32
  let v1074 : BitVec 32 := Scalar.muli v201 c1_i32_716
  let v1075 : BitVec 32 := Scalar.addi c0_i32_717 v1074
  v1075.toNat
def k0_mult22 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  v1023
def k0_dev17 (d0 : Dev nD) : Nat :=
  let c0_i32_732 : BitVec 32 := 0#32
  let c8_i32_76 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v154 : BitVec 32 := Scalar.muli c8_i32_76 v19
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_75 : BitVec 32 := 2#32
  let v153 : BitVec 32 := Scalar.xori v46 c2_i32_75
  let v155 : BitVec 32 := Scalar.muli c2_i32_77 v153
  let v156 : BitVec 32 := Scalar.addi v154 v155
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_78 : BitVec 32 := 2#32
  let c0_i32_79 : BitVec 32 := 0#32
  let v157 : BitVec 1 := Scalar.cmpi .eq c2_i32_78 c0_i32_79
  let c1_i32_80 : BitVec 32 := 1#32
  let v158 : BitVec 32 := Scalar.select v157 c1_i32_80 c2_i32_78
  let v159 : BitVec 32 := Scalar.remsi v153 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let v167 : BitVec 32 := Scalar.xori v67 v166
  let v168 : BitVec 32 := Scalar.addi v156 v167
  let c1_i32_731 : BitVec 32 := 1#32
  let v1097 : BitVec 32 := Scalar.muli v168 c1_i32_731
  let v1098 : BitVec 32 := Scalar.addi c0_i32_732 v1097
  v1098.toNat
def k0_mult23 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c1_i32_722 : BitVec 32 := 1#32
  let c2_i32_721 : BitVec 32 := 2#32
  let v1083 : BitVec 32 := Scalar.muli c2_i32_721 v185
  let v1084 : BitVec 32 := Scalar.subi c1_i32_722 v1083
  let c16_i32_723 : BitVec 32 := 16#32
  let v1085 : BitVec 32 := Scalar.muli v1084 c16_i32_723
  let v1086 : BitVec 32 := Scalar.addi v1001 v1085
  v1086
def k0_off21 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c1_i32_722 : BitVec 32 := 1#32
  let c2_i32_721 : BitVec 32 := 2#32
  let v1083 : BitVec 32 := Scalar.muli c2_i32_721 v185
  let v1084 : BitVec 32 := Scalar.subi c1_i32_722 v1083
  let c16_i32_723 : BitVec 32 := 16#32
  let v1085 : BitVec 32 := Scalar.muli v1084 c16_i32_723
  let v1086 : BitVec 32 := Scalar.addi v1001 v1085
  let v1124 : BitVec 32 := v1086
  let v1127 : Index := Scalar.indexCast v1124
  let c0_758 : Index := 0#32
  ![v1127.toNat, 0]
def k0_mult24 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c1_i32_737 : BitVec 32 := 1#32
  let c2_i32_736 : BitVec 32 := 2#32
  let v1106 : BitVec 32 := Scalar.muli c2_i32_736 v152
  let v1107 : BitVec 32 := Scalar.subi c1_i32_737 v1106
  let c16_i32_738 : BitVec 32 := 16#32
  let v1108 : BitVec 32 := Scalar.muli v1107 c16_i32_738
  let v1109 : BitVec 32 := Scalar.addi v1023 v1108
  v1109
def k0_off22 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c1_i32_737 : BitVec 32 := 1#32
  let c2_i32_736 : BitVec 32 := 2#32
  let v1106 : BitVec 32 := Scalar.muli c2_i32_736 v152
  let v1107 : BitVec 32 := Scalar.subi c1_i32_737 v1106
  let c16_i32_738 : BitVec 32 := 16#32
  let v1108 : BitVec 32 := Scalar.muli v1107 c16_i32_738
  let v1109 : BitVec 32 := Scalar.addi v1023 v1108
  let v1141 : BitVec 32 := v1109
  let v1144 : Index := Scalar.indexCast v1141
  let c0_777 : Index := 0#32
  ![v1144.toNat, 0]
def k0_mult25 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  v1088
def k0_off23 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let v1146 : BitVec 32 := v1088
  let v1147 : Index := Scalar.indexCast v1146
  let c0_778 : Index := 0#32
  ![v1147.toNat, 0]
def k0_dev18 (d0 : Dev nD) : Nat :=
  let c0_i32_785 : BitVec 32 := 0#32
  let c8_i32_76 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v154 : BitVec 32 := Scalar.muli c8_i32_76 v19
  let c2_i32_77 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_75 : BitVec 32 := 2#32
  let v153 : BitVec 32 := Scalar.xori v46 c2_i32_75
  let v155 : BitVec 32 := Scalar.muli c2_i32_77 v153
  let v156 : BitVec 32 := Scalar.addi v154 v155
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_78 : BitVec 32 := 2#32
  let c0_i32_79 : BitVec 32 := 0#32
  let v157 : BitVec 1 := Scalar.cmpi .eq c2_i32_78 c0_i32_79
  let c1_i32_80 : BitVec 32 := 1#32
  let v158 : BitVec 32 := Scalar.select v157 c1_i32_80 c2_i32_78
  let v159 : BitVec 32 := Scalar.remsi v153 v158
  let c0_i32_82 : BitVec 32 := 0#32
  let v161 : BitVec 1 := Scalar.cmpi .slt v159 c0_i32_82
  let c0_i32_83 : BitVec 32 := 0#32
  let v162 : BitVec 1 := Scalar.cmpi .slt v158 c0_i32_83
  let v163 : BitVec 1 := Scalar.xori v161 v162
  let c0_i32_81 : BitVec 32 := 0#32
  let v160 : BitVec 1 := Scalar.cmpi .ne v159 c0_i32_81
  let v164 : BitVec 1 := Scalar.andi v163 v160
  let v165 : BitVec 32 := Scalar.addi v159 v158
  let v166 : BitVec 32 := Scalar.select v164 v165 v159
  let v167 : BitVec 32 := Scalar.xori v67 v166
  let v168 : BitVec 32 := Scalar.addi v156 v167
  let c1_i32_784 : BitVec 32 := 1#32
  let v1154 : BitVec 32 := Scalar.muli v168 c1_i32_784
  let v1155 : BitVec 32 := Scalar.addi c0_i32_785 v1154
  v1155.toNat
def k0_mult26 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  v1111
def k0_off24 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let v1169 : BitVec 32 := v1111
  let v1170 : Index := Scalar.indexCast v1169
  let c0_793 : Index := 0#32
  ![v1170.toNat, 0]
def k0_dev19 (d0 : Dev nD) : Nat :=
  let c0_i32_800 : BitVec 32 := 0#32
  let c8_i32_92 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_91 : BitVec 32 := 2#32
  let v186 : BitVec 32 := Scalar.xori v19 c2_i32_91
  let v187 : BitVec 32 := Scalar.muli c8_i32_92 v186
  let c2_i32_93 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v188 : BitVec 32 := Scalar.muli c2_i32_93 v46
  let v189 : BitVec 32 := Scalar.addi v187 v188
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_94 : BitVec 32 := 2#32
  let c0_i32_95 : BitVec 32 := 0#32
  let v190 : BitVec 1 := Scalar.cmpi .eq c2_i32_94 c0_i32_95
  let c1_i32_96 : BitVec 32 := 1#32
  let v191 : BitVec 32 := Scalar.select v190 c1_i32_96 c2_i32_94
  let v192 : BitVec 32 := Scalar.remsi v46 v191
  let c0_i32_98 : BitVec 32 := 0#32
  let v194 : BitVec 1 := Scalar.cmpi .slt v192 c0_i32_98
  let c0_i32_99 : BitVec 32 := 0#32
  let v195 : BitVec 1 := Scalar.cmpi .slt v191 c0_i32_99
  let v196 : BitVec 1 := Scalar.xori v194 v195
  let c0_i32_97 : BitVec 32 := 0#32
  let v193 : BitVec 1 := Scalar.cmpi .ne v192 c0_i32_97
  let v197 : BitVec 1 := Scalar.andi v196 v193
  let v198 : BitVec 32 := Scalar.addi v192 v191
  let v199 : BitVec 32 := Scalar.select v197 v198 v192
  let v200 : BitVec 32 := Scalar.xori v67 v199
  let v201 : BitVec 32 := Scalar.addi v189 v200
  let c1_i32_799 : BitVec 32 := 1#32
  let v1177 : BitVec 32 := Scalar.muli v201 c1_i32_799
  let v1178 : BitVec 32 := Scalar.addi c0_i32_800 v1177
  v1178.toNat
def k0_mult27 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c1_i32_790 : BitVec 32 := 1#32
  let c2_i32_789 : BitVec 32 := 2#32
  let v1163 : BitVec 32 := Scalar.muli c2_i32_789 v152
  let v1164 : BitVec 32 := Scalar.subi c1_i32_790 v1163
  let c32_i32_791 : BitVec 32 := 32#32
  let v1165 : BitVec 32 := Scalar.muli v1164 c32_i32_791
  let v1166 : BitVec 32 := Scalar.addi v1088 v1165
  v1166
def k0_off25 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c1_i32_790 : BitVec 32 := 1#32
  let c2_i32_789 : BitVec 32 := 2#32
  let v1163 : BitVec 32 := Scalar.muli c2_i32_789 v152
  let v1164 : BitVec 32 := Scalar.subi c1_i32_790 v1163
  let c32_i32_791 : BitVec 32 := 32#32
  let v1165 : BitVec 32 := Scalar.muli v1164 c32_i32_791
  let v1166 : BitVec 32 := Scalar.addi v1088 v1165
  let v1204 : BitVec 32 := v1166
  let v1207 : Index := Scalar.indexCast v1204
  let c0_826 : Index := 0#32
  ![v1207.toNat, 0]
def k0_mult28 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c1_i32_805 : BitVec 32 := 1#32
  let c2_i32_804 : BitVec 32 := 2#32
  let v1186 : BitVec 32 := Scalar.muli c2_i32_804 v185
  let v1187 : BitVec 32 := Scalar.subi c1_i32_805 v1186
  let c32_i32_806 : BitVec 32 := 32#32
  let v1188 : BitVec 32 := Scalar.muli v1187 c32_i32_806
  let v1189 : BitVec 32 := Scalar.addi v1111 v1188
  v1189
def k0_off26 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c1_i32_805 : BitVec 32 := 1#32
  let c2_i32_804 : BitVec 32 := 2#32
  let v1186 : BitVec 32 := Scalar.muli c2_i32_804 v185
  let v1187 : BitVec 32 := Scalar.subi c1_i32_805 v1186
  let c32_i32_806 : BitVec 32 := 32#32
  let v1188 : BitVec 32 := Scalar.muli v1187 c32_i32_806
  let v1189 : BitVec 32 := Scalar.addi v1111 v1188
  let v1221 : BitVec 32 := v1189
  let v1224 : Index := Scalar.indexCast v1221
  let c0_845 : Index := 0#32
  ![v1224.toNat, 0]
def k0_mult29 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  v1168
def k0_off27 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let v1226 : BitVec 32 := v1168
  let v1227 : Index := Scalar.indexCast v1226
  let c0_846 : Index := 0#32
  ![v1227.toNat, 0]
def k0_dev20 (d0 : Dev nD) : Nat :=
  let c0_i32_853 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_59 : BitVec 32 := 1#32
  let v120 : BitVec 32 := Scalar.xori v19 c1_i32_59
  let v121 : BitVec 32 := Scalar.muli c8_i32_60 v120
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v122 : BitVec 32 := Scalar.muli c2_i32_61 v46
  let v123 : BitVec 32 := Scalar.addi v121 v122
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_62 : BitVec 32 := 2#32
  let c0_i32_63 : BitVec 32 := 0#32
  let v124 : BitVec 1 := Scalar.cmpi .eq c2_i32_62 c0_i32_63
  let c1_i32_64 : BitVec 32 := 1#32
  let v125 : BitVec 32 := Scalar.select v124 c1_i32_64 c2_i32_62
  let v126 : BitVec 32 := Scalar.remsi v46 v125
  let c0_i32_66 : BitVec 32 := 0#32
  let v128 : BitVec 1 := Scalar.cmpi .slt v126 c0_i32_66
  let c0_i32_67 : BitVec 32 := 0#32
  let v129 : BitVec 1 := Scalar.cmpi .slt v125 c0_i32_67
  let v130 : BitVec 1 := Scalar.xori v128 v129
  let c0_i32_65 : BitVec 32 := 0#32
  let v127 : BitVec 1 := Scalar.cmpi .ne v126 c0_i32_65
  let v131 : BitVec 1 := Scalar.andi v130 v127
  let v132 : BitVec 32 := Scalar.addi v126 v125
  let v133 : BitVec 32 := Scalar.select v131 v132 v126
  let v134 : BitVec 32 := Scalar.xori v67 v133
  let v135 : BitVec 32 := Scalar.addi v123 v134
  let c1_i32_852 : BitVec 32 := 1#32
  let v1234 : BitVec 32 := Scalar.muli v135 c1_i32_852
  let v1235 : BitVec 32 := Scalar.addi c0_i32_853 v1234
  v1235.toNat
def k0_mult30 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  v1191
def k0_off28 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let v1249 : BitVec 32 := v1191
  let v1250 : Index := Scalar.indexCast v1249
  let c0_861 : Index := 0#32
  ![v1250.toNat, 0]
def k0_dev21 (d0 : Dev nD) : Nat :=
  let c0_i32_868 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_31 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v46 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.xori v68 v81
  let v83 : BitVec 32 := Scalar.addi v71 v82
  let c1_i32_867 : BitVec 32 := 1#32
  let v1257 : BitVec 32 := Scalar.muli v83 c1_i32_867
  let v1258 : BitVec 32 := Scalar.addi c0_i32_868 v1257
  v1258.toNat
def k0_mult31 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c1_i32_858 : BitVec 32 := 1#32
  let c2_i32_857 : BitVec 32 := 2#32
  let v1243 : BitVec 32 := Scalar.muli c2_i32_857 v119
  let v1244 : BitVec 32 := Scalar.subi c1_i32_858 v1243
  let c64_i32_859 : BitVec 32 := 64#32
  let v1245 : BitVec 32 := Scalar.muli v1244 c64_i32_859
  let v1246 : BitVec 32 := Scalar.addi v1168 v1245
  v1246
def k0_off29 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c1_i32_858 : BitVec 32 := 1#32
  let c2_i32_857 : BitVec 32 := 2#32
  let v1243 : BitVec 32 := Scalar.muli c2_i32_857 v119
  let v1244 : BitVec 32 := Scalar.subi c1_i32_858 v1243
  let c64_i32_859 : BitVec 32 := 64#32
  let v1245 : BitVec 32 := Scalar.muli v1244 c64_i32_859
  let v1246 : BitVec 32 := Scalar.addi v1168 v1245
  let v1284 : BitVec 32 := v1246
  let v1287 : Index := Scalar.indexCast v1284
  let c0_894 : Index := 0#32
  ![v1287.toNat, 0]
def k0_mult32 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c1_i32_873 : BitVec 32 := 1#32
  let c2_i32_872 : BitVec 32 := 2#32
  let v1266 : BitVec 32 := Scalar.muli c2_i32_872 v67
  let v1267 : BitVec 32 := Scalar.subi c1_i32_873 v1266
  let c64_i32_874 : BitVec 32 := 64#32
  let v1268 : BitVec 32 := Scalar.muli v1267 c64_i32_874
  let v1269 : BitVec 32 := Scalar.addi v1191 v1268
  v1269
def k0_off30 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c1_i32_873 : BitVec 32 := 1#32
  let c2_i32_872 : BitVec 32 := 2#32
  let v1266 : BitVec 32 := Scalar.muli c2_i32_872 v67
  let v1267 : BitVec 32 := Scalar.subi c1_i32_873 v1266
  let c64_i32_874 : BitVec 32 := 64#32
  let v1268 : BitVec 32 := Scalar.muli v1267 c64_i32_874
  let v1269 : BitVec 32 := Scalar.addi v1191 v1268
  let v1301 : BitVec 32 := v1269
  let v1304 : Index := Scalar.indexCast v1301
  let c0_913 : Index := 0#32
  ![v1304.toNat, 0]
def k0_mult33 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c64_i32_860 : BitVec 32 := 64#32
  let v1247 : BitVec 32 := Scalar.muli v119 c64_i32_860
  let v1248 : BitVec 32 := Scalar.subi v1168 v1247
  v1248
def k0_off31 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c64_i32_860 : BitVec 32 := 64#32
  let v1247 : BitVec 32 := Scalar.muli v119 c64_i32_860
  let v1248 : BitVec 32 := Scalar.subi v1168 v1247
  let v1306 : BitVec 32 := v1248
  let v1307 : Index := Scalar.indexCast v1306
  let c0_914 : Index := 0#32
  ![v1307.toNat, 0]
def k0_dev22 (d0 : Dev nD) : Nat :=
  let c0_i32_922 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v95 : BitVec 32 := Scalar.muli c8_i32_45 v19
  let c2_i32_46 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_44 : BitVec 32 := 1#32
  let v94 : BitVec 32 := Scalar.xori v46 c1_i32_44
  let v96 : BitVec 32 := Scalar.muli c2_i32_46 v94
  let v97 : BitVec 32 := Scalar.addi v95 v96
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_47 : BitVec 32 := 2#32
  let c0_i32_48 : BitVec 32 := 0#32
  let v98 : BitVec 1 := Scalar.cmpi .eq c2_i32_47 c0_i32_48
  let c1_i32_49 : BitVec 32 := 1#32
  let v99 : BitVec 32 := Scalar.select v98 c1_i32_49 c2_i32_47
  let v100 : BitVec 32 := Scalar.remsi v94 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let v108 : BitVec 32 := Scalar.xori v67 v107
  let v109 : BitVec 32 := Scalar.addi v97 v108
  let c1_i32_921 : BitVec 32 := 1#32
  let v1314 : BitVec 32 := Scalar.muli v109 c1_i32_921
  let v1315 : BitVec 32 := Scalar.addi c0_i32_922 v1314
  v1315.toNat
def k0_mult34 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c64_i32_875 : BitVec 32 := 64#32
  let v1270 : BitVec 32 := Scalar.muli v67 c64_i32_875
  let v1271 : BitVec 32 := Scalar.subi v1191 v1270
  v1271
def k0_off32 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c64_i32_875 : BitVec 32 := 64#32
  let v1270 : BitVec 32 := Scalar.muli v67 c64_i32_875
  let v1271 : BitVec 32 := Scalar.subi v1191 v1270
  let v1329 : BitVec 32 := v1271
  let v1330 : Index := Scalar.indexCast v1329
  let c0_930 : Index := 0#32
  ![v1330.toNat, 0]
def k0_dev23 (d0 : Dev nD) : Nat :=
  let c0_i32_937 : BitVec 32 := 0#32
  let c8_i32_60 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_59 : BitVec 32 := 1#32
  let v120 : BitVec 32 := Scalar.xori v19 c1_i32_59
  let v121 : BitVec 32 := Scalar.muli c8_i32_60 v120
  let c2_i32_61 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v122 : BitVec 32 := Scalar.muli c2_i32_61 v46
  let v123 : BitVec 32 := Scalar.addi v121 v122
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_62 : BitVec 32 := 2#32
  let c0_i32_63 : BitVec 32 := 0#32
  let v124 : BitVec 1 := Scalar.cmpi .eq c2_i32_62 c0_i32_63
  let c1_i32_64 : BitVec 32 := 1#32
  let v125 : BitVec 32 := Scalar.select v124 c1_i32_64 c2_i32_62
  let v126 : BitVec 32 := Scalar.remsi v46 v125
  let c0_i32_66 : BitVec 32 := 0#32
  let v128 : BitVec 1 := Scalar.cmpi .slt v126 c0_i32_66
  let c0_i32_67 : BitVec 32 := 0#32
  let v129 : BitVec 1 := Scalar.cmpi .slt v125 c0_i32_67
  let v130 : BitVec 1 := Scalar.xori v128 v129
  let c0_i32_65 : BitVec 32 := 0#32
  let v127 : BitVec 1 := Scalar.cmpi .ne v126 c0_i32_65
  let v131 : BitVec 1 := Scalar.andi v130 v127
  let v132 : BitVec 32 := Scalar.addi v126 v125
  let v133 : BitVec 32 := Scalar.select v131 v132 v126
  let v134 : BitVec 32 := Scalar.xori v67 v133
  let v135 : BitVec 32 := Scalar.addi v123 v134
  let c1_i32_936 : BitVec 32 := 1#32
  let v1337 : BitVec 32 := Scalar.muli v135 c1_i32_936
  let v1338 : BitVec 32 := Scalar.addi c0_i32_937 v1337
  v1338.toNat
def k0_mult35 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c64_i32_860 : BitVec 32 := 64#32
  let v1247 : BitVec 32 := Scalar.muli v119 c64_i32_860
  let v1248 : BitVec 32 := Scalar.subi v1168 v1247
  let c1_i32_927 : BitVec 32 := 1#32
  let c2_i32_926 : BitVec 32 := 2#32
  let v1323 : BitVec 32 := Scalar.muli c2_i32_926 v93
  let v1324 : BitVec 32 := Scalar.subi c1_i32_927 v1323
  let c128_i32_928 : BitVec 32 := 128#32
  let v1325 : BitVec 32 := Scalar.muli v1324 c128_i32_928
  let v1326 : BitVec 32 := Scalar.addi v1248 v1325
  v1326
def k0_off33 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c64_i32_860 : BitVec 32 := 64#32
  let v1247 : BitVec 32 := Scalar.muli v119 c64_i32_860
  let v1248 : BitVec 32 := Scalar.subi v1168 v1247
  let c1_i32_927 : BitVec 32 := 1#32
  let c2_i32_926 : BitVec 32 := 2#32
  let v1323 : BitVec 32 := Scalar.muli c2_i32_926 v93
  let v1324 : BitVec 32 := Scalar.subi c1_i32_927 v1323
  let c128_i32_928 : BitVec 32 := 128#32
  let v1325 : BitVec 32 := Scalar.muli v1324 c128_i32_928
  let v1326 : BitVec 32 := Scalar.addi v1248 v1325
  let v1364 : BitVec 32 := v1326
  let v1367 : Index := Scalar.indexCast v1364
  let c0_963 : Index := 0#32
  ![v1367.toNat, 0]
def k0_mult36 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c64_i32_875 : BitVec 32 := 64#32
  let v1270 : BitVec 32 := Scalar.muli v67 c64_i32_875
  let v1271 : BitVec 32 := Scalar.subi v1191 v1270
  let c1_i32_942 : BitVec 32 := 1#32
  let c2_i32_941 : BitVec 32 := 2#32
  let v1346 : BitVec 32 := Scalar.muli c2_i32_941 v119
  let v1347 : BitVec 32 := Scalar.subi c1_i32_942 v1346
  let c128_i32_943 : BitVec 32 := 128#32
  let v1348 : BitVec 32 := Scalar.muli v1347 c128_i32_943
  let v1349 : BitVec 32 := Scalar.addi v1271 v1348
  v1349
def k0_off34 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c64_i32_875 : BitVec 32 := 64#32
  let v1270 : BitVec 32 := Scalar.muli v67 c64_i32_875
  let v1271 : BitVec 32 := Scalar.subi v1191 v1270
  let c1_i32_942 : BitVec 32 := 1#32
  let c2_i32_941 : BitVec 32 := 2#32
  let v1346 : BitVec 32 := Scalar.muli c2_i32_941 v119
  let v1347 : BitVec 32 := Scalar.subi c1_i32_942 v1346
  let c128_i32_943 : BitVec 32 := 128#32
  let v1348 : BitVec 32 := Scalar.muli v1347 c128_i32_943
  let v1349 : BitVec 32 := Scalar.addi v1271 v1348
  let v1381 : BitVec 32 := v1349
  let v1384 : Index := Scalar.indexCast v1381
  let c0_982 : Index := 0#32
  ![v1384.toNat, 0]
def k0_mult37 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c64_i32_860 : BitVec 32 := 64#32
  let v1247 : BitVec 32 := Scalar.muli v119 c64_i32_860
  let v1248 : BitVec 32 := Scalar.subi v1168 v1247
  let c128_i32_929 : BitVec 32 := 128#32
  let v1327 : BitVec 32 := Scalar.muli v93 c128_i32_929
  let v1328 : BitVec 32 := Scalar.subi v1248 v1327
  v1328
def k0_off35 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c64_i32_860 : BitVec 32 := 64#32
  let v1247 : BitVec 32 := Scalar.muli v119 c64_i32_860
  let v1248 : BitVec 32 := Scalar.subi v1168 v1247
  let c128_i32_929 : BitVec 32 := 128#32
  let v1327 : BitVec 32 := Scalar.muli v93 c128_i32_929
  let v1328 : BitVec 32 := Scalar.subi v1248 v1327
  let v1386 : BitVec 32 := v1328
  let v1387 : Index := Scalar.indexCast v1386
  let c0_983 : Index := 0#32
  ![v1387.toNat, 0]
def k0_dev24 (d0 : Dev nD) : Nat :=
  let c0_i32_990 : BitVec 32 := 0#32
  let c8_i32_30 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v69 : BitVec 32 := Scalar.muli c8_i32_30 v19
  let c2_i32_31 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v70 : BitVec 32 := Scalar.muli c2_i32_31 v46
  let v71 : BitVec 32 := Scalar.addi v69 v70
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c1_i32_29 : BitVec 32 := 1#32
  let v68 : BitVec 32 := Scalar.xori v67 c1_i32_29
  let c2_i32_32 : BitVec 32 := 2#32
  let c0_i32_33 : BitVec 32 := 0#32
  let v72 : BitVec 1 := Scalar.cmpi .eq c2_i32_32 c0_i32_33
  let c1_i32_34 : BitVec 32 := 1#32
  let v73 : BitVec 32 := Scalar.select v72 c1_i32_34 c2_i32_32
  let v74 : BitVec 32 := Scalar.remsi v46 v73
  let c0_i32_36 : BitVec 32 := 0#32
  let v76 : BitVec 1 := Scalar.cmpi .slt v74 c0_i32_36
  let c0_i32_37 : BitVec 32 := 0#32
  let v77 : BitVec 1 := Scalar.cmpi .slt v73 c0_i32_37
  let v78 : BitVec 1 := Scalar.xori v76 v77
  let c0_i32_35 : BitVec 32 := 0#32
  let v75 : BitVec 1 := Scalar.cmpi .ne v74 c0_i32_35
  let v79 : BitVec 1 := Scalar.andi v78 v75
  let v80 : BitVec 32 := Scalar.addi v74 v73
  let v81 : BitVec 32 := Scalar.select v79 v80 v74
  let v82 : BitVec 32 := Scalar.xori v68 v81
  let v83 : BitVec 32 := Scalar.addi v71 v82
  let c1_i32_989 : BitVec 32 := 1#32
  let v1394 : BitVec 32 := Scalar.muli v83 c1_i32_989
  let v1395 : BitVec 32 := Scalar.addi c0_i32_990 v1394
  v1395.toNat
def k0_mult38 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c64_i32_875 : BitVec 32 := 64#32
  let v1270 : BitVec 32 := Scalar.muli v67 c64_i32_875
  let v1271 : BitVec 32 := Scalar.subi v1191 v1270
  let c128_i32_944 : BitVec 32 := 128#32
  let v1350 : BitVec 32 := Scalar.muli v119 c128_i32_944
  let v1351 : BitVec 32 := Scalar.subi v1271 v1350
  v1351
def k0_off36 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c64_i32_875 : BitVec 32 := 64#32
  let v1270 : BitVec 32 := Scalar.muli v67 c64_i32_875
  let v1271 : BitVec 32 := Scalar.subi v1191 v1270
  let c128_i32_944 : BitVec 32 := 128#32
  let v1350 : BitVec 32 := Scalar.muli v119 c128_i32_944
  let v1351 : BitVec 32 := Scalar.subi v1271 v1350
  let v1407 : BitVec 32 := v1351
  let v1408 : Index := Scalar.indexCast v1407
  let c0_997 : Index := 0#32
  ![v1408.toNat, 0]
def k0_dev25 (d0 : Dev nD) : Nat :=
  let c0_i32_1004 : BitVec 32 := 0#32
  let c8_i32_45 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v95 : BitVec 32 := Scalar.muli c8_i32_45 v19
  let c2_i32_46 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c1_i32_44 : BitVec 32 := 1#32
  let v94 : BitVec 32 := Scalar.xori v46 c1_i32_44
  let v96 : BitVec 32 := Scalar.muli c2_i32_46 v94
  let v97 : BitVec 32 := Scalar.addi v95 v96
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c2_i32_47 : BitVec 32 := 2#32
  let c0_i32_48 : BitVec 32 := 0#32
  let v98 : BitVec 1 := Scalar.cmpi .eq c2_i32_47 c0_i32_48
  let c1_i32_49 : BitVec 32 := 1#32
  let v99 : BitVec 32 := Scalar.select v98 c1_i32_49 c2_i32_47
  let v100 : BitVec 32 := Scalar.remsi v94 v99
  let c0_i32_51 : BitVec 32 := 0#32
  let v102 : BitVec 1 := Scalar.cmpi .slt v100 c0_i32_51
  let c0_i32_52 : BitVec 32 := 0#32
  let v103 : BitVec 1 := Scalar.cmpi .slt v99 c0_i32_52
  let v104 : BitVec 1 := Scalar.xori v102 v103
  let c0_i32_50 : BitVec 32 := 0#32
  let v101 : BitVec 1 := Scalar.cmpi .ne v100 c0_i32_50
  let v105 : BitVec 1 := Scalar.andi v104 v101
  let v106 : BitVec 32 := Scalar.addi v100 v99
  let v107 : BitVec 32 := Scalar.select v105 v106 v100
  let v108 : BitVec 32 := Scalar.xori v67 v107
  let v109 : BitVec 32 := Scalar.addi v97 v108
  let c1_i32_1003 : BitVec 32 := 1#32
  let v1415 : BitVec 32 := Scalar.muli v109 c1_i32_1003
  let v1416 : BitVec 32 := Scalar.addi c0_i32_1004 v1415
  v1416.toNat
def k0_mult39 (d0 : Dev nD) : BitVec 32 :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c64_i32_860 : BitVec 32 := 64#32
  let v1247 : BitVec 32 := Scalar.muli v119 c64_i32_860
  let v1248 : BitVec 32 := Scalar.subi v1168 v1247
  let c128_i32_929 : BitVec 32 := 128#32
  let v1327 : BitVec 32 := Scalar.muli v93 c128_i32_929
  let v1328 : BitVec 32 := Scalar.subi v1248 v1327
  let c1_i32_995 : BitVec 32 := 1#32
  let c2_i32_994 : BitVec 32 := 2#32
  let v1403 : BitVec 32 := Scalar.muli c2_i32_994 v67
  let v1404 : BitVec 32 := Scalar.subi c1_i32_995 v1403
  let c256_i32_996 : BitVec 32 := 256#32
  let v1405 : BitVec 32 := Scalar.muli v1404 c256_i32_996
  let v1406 : BitVec 32 := Scalar.addi v1328 v1405
  v1406
def k0_off37 (d0 : Dev nD) : Fin 2 → Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c256_i32_377 : BitVec 32 := 256#32
  let v656 : BitVec 32 := Scalar.muli v67 c256_i32_377
  let v657 : BitVec 32 := Scalar.addi c0_i32_378 v656
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c128_i32_450 : BitVec 32 := 128#32
  let v742 : BitVec 32 := Scalar.muli v93 c128_i32_450
  let v743 : BitVec 32 := Scalar.addi v657 v742
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c64_i32_518 : BitVec 32 := 64#32
  let v828 : BitVec 32 := Scalar.muli v119 c64_i32_518
  let v829 : BitVec 32 := Scalar.addi v743 v828
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c32_i32_587 : BitVec 32 := 32#32
  let v914 : BitVec 32 := Scalar.muli v152 c32_i32_587
  let v915 : BitVec 32 := Scalar.addi v829 v914
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c16_i32_655 : BitVec 32 := 16#32
  let v1000 : BitVec 32 := Scalar.muli v185 c16_i32_655
  let v1001 : BitVec 32 := Scalar.addi v915 v1000
  let c16_i32_724 : BitVec 32 := 16#32
  let v1087 : BitVec 32 := Scalar.muli v185 c16_i32_724
  let v1088 : BitVec 32 := Scalar.subi v1001 v1087
  let c32_i32_792 : BitVec 32 := 32#32
  let v1167 : BitVec 32 := Scalar.muli v152 c32_i32_792
  let v1168 : BitVec 32 := Scalar.subi v1088 v1167
  let c64_i32_860 : BitVec 32 := 64#32
  let v1247 : BitVec 32 := Scalar.muli v119 c64_i32_860
  let v1248 : BitVec 32 := Scalar.subi v1168 v1247
  let c128_i32_929 : BitVec 32 := 128#32
  let v1327 : BitVec 32 := Scalar.muli v93 c128_i32_929
  let v1328 : BitVec 32 := Scalar.subi v1248 v1327
  let c1_i32_995 : BitVec 32 := 1#32
  let c2_i32_994 : BitVec 32 := 2#32
  let v1403 : BitVec 32 := Scalar.muli c2_i32_994 v67
  let v1404 : BitVec 32 := Scalar.subi c1_i32_995 v1403
  let c256_i32_996 : BitVec 32 := 256#32
  let v1405 : BitVec 32 := Scalar.muli v1404 c256_i32_996
  let v1406 : BitVec 32 := Scalar.addi v1328 v1405
  let v1440 : BitVec 32 := v1406
  let v1443 : Index := Scalar.indexCast v1440
  let c0_1029 : Index := 0#32
  ![v1443.toNat, 0]
def k0_mult40 (d0 : Dev nD) : BitVec 32 :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c64_i32_875 : BitVec 32 := 64#32
  let v1270 : BitVec 32 := Scalar.muli v67 c64_i32_875
  let v1271 : BitVec 32 := Scalar.subi v1191 v1270
  let c128_i32_944 : BitVec 32 := 128#32
  let v1350 : BitVec 32 := Scalar.muli v119 c128_i32_944
  let v1351 : BitVec 32 := Scalar.subi v1271 v1350
  let c1_i32_1009 : BitVec 32 := 1#32
  let c2_i32_1008 : BitVec 32 := 2#32
  let v1424 : BitVec 32 := Scalar.muli c2_i32_1008 v93
  let v1425 : BitVec 32 := Scalar.subi c1_i32_1009 v1424
  let c256_i32_1010 : BitVec 32 := 256#32
  let v1426 : BitVec 32 := Scalar.muli v1425 c256_i32_1010
  let v1427 : BitVec 32 := Scalar.addi v1351 v1426
  v1427
def k0_off38 (d0 : Dev nD) : Fin 2 → Nat :=
  let c512_i32_394 : BitVec 32 := 512#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_38 : BitVec 32 := 2#32
  let c0_i32_39 : BitVec 32 := 0#32
  let v84 : BitVec 1 := Scalar.cmpi .eq c2_i32_38 c0_i32_39
  let c1_i32_40 : BitVec 32 := 1#32
  let v85 : BitVec 32 := Scalar.select v84 c1_i32_40 c2_i32_38
  let v86 : BitVec 32 := Scalar.remsi v46 v85
  let c0_i32_42 : BitVec 32 := 0#32
  let v88 : BitVec 1 := Scalar.cmpi .slt v86 c0_i32_42
  let c0_i32_43 : BitVec 32 := 0#32
  let v89 : BitVec 1 := Scalar.cmpi .slt v85 c0_i32_43
  let v90 : BitVec 1 := Scalar.xori v88 v89
  let c0_i32_41 : BitVec 32 := 0#32
  let v87 : BitVec 1 := Scalar.cmpi .ne v86 c0_i32_41
  let v91 : BitVec 1 := Scalar.andi v90 v87
  let v92 : BitVec 32 := Scalar.addi v86 v85
  let v93 : BitVec 32 := Scalar.select v91 v92 v86
  let c256_i32_393 : BitVec 32 := 256#32
  let v678 : BitVec 32 := Scalar.muli v93 c256_i32_393
  let v679 : BitVec 32 := Scalar.addi c512_i32_394 v678
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_53 : BitVec 32 := 2#32
  let c0_i32_54 : BitVec 32 := 0#32
  let v110 : BitVec 1 := Scalar.cmpi .eq c2_i32_53 c0_i32_54
  let c1_i32_55 : BitVec 32 := 1#32
  let v111 : BitVec 32 := Scalar.select v110 c1_i32_55 c2_i32_53
  let v112 : BitVec 32 := Scalar.remsi v19 v111
  let c0_i32_57 : BitVec 32 := 0#32
  let v114 : BitVec 1 := Scalar.cmpi .slt v112 c0_i32_57
  let c0_i32_58 : BitVec 32 := 0#32
  let v115 : BitVec 1 := Scalar.cmpi .slt v111 c0_i32_58
  let v116 : BitVec 1 := Scalar.xori v114 v115
  let c0_i32_56 : BitVec 32 := 0#32
  let v113 : BitVec 1 := Scalar.cmpi .ne v112 c0_i32_56
  let v117 : BitVec 1 := Scalar.andi v116 v113
  let v118 : BitVec 32 := Scalar.addi v112 v111
  let v119 : BitVec 32 := Scalar.select v117 v118 v112
  let c128_i32_464 : BitVec 32 := 128#32
  let v764 : BitVec 32 := Scalar.muli v119 c128_i32_464
  let v765 : BitVec 32 := Scalar.addi v679 v764
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let v67 : BitVec 32 := Scalar.xori v56 v66
  let c64_i32_533 : BitVec 32 := 64#32
  let v850 : BitVec 32 := Scalar.muli v67 c64_i32_533
  let v851 : BitVec 32 := Scalar.addi v765 v850
  let c0_i32_85 : BitVec 32 := 0#32
  let v170 : BitVec 1 := Scalar.cmpi .sgt v19 c0_i32_85
  let v171 : BitVec 32 := Scalar.extui v170
  let c0_i32_86 : BitVec 32 := 0#32
  let v172 : BitVec 1 := Scalar.cmpi .slt v19 c0_i32_86
  let v173 : BitVec 32 := Scalar.extui v172
  let v174 : BitVec 32 := Scalar.subi v171 v173
  let c2_i32_84 : BitVec 32 := 2#32
  let c0_i32_87 : BitVec 32 := 0#32
  let v175 : BitVec 1 := Scalar.cmpi .sgt c2_i32_84 c0_i32_87
  let v176 : BitVec 32 := Scalar.extui v175
  let c0_i32_88 : BitVec 32 := 0#32
  let v177 : BitVec 1 := Scalar.cmpi .slt c2_i32_84 c0_i32_88
  let v178 : BitVec 32 := Scalar.extui v177
  let v179 : BitVec 32 := Scalar.subi v176 v178
  let v180 : BitVec 1 := Scalar.cmpi .ne v174 v179
  let v181 : BitVec 32 := Scalar.remsi v19 c2_i32_84
  let c0_i32_89 : BitVec 32 := 0#32
  let v182 : BitVec 1 := Scalar.cmpi .ne v181 c0_i32_89
  let v183 : BitVec 1 := Scalar.andi v180 v182
  let v169 : BitVec 32 := Scalar.divsi v19 c2_i32_84
  let c1_i32_90 : BitVec 32 := 1#32
  let v184 : BitVec 32 := Scalar.subi v169 c1_i32_90
  let v185 : BitVec 32 := Scalar.select v183 v184 v169
  let c32_i32_601 : BitVec 32 := 32#32
  let v936 : BitVec 32 := Scalar.muli v185 c32_i32_601
  let v937 : BitVec 32 := Scalar.addi v851 v936
  let c0_i32_69 : BitVec 32 := 0#32
  let v137 : BitVec 1 := Scalar.cmpi .sgt v46 c0_i32_69
  let v138 : BitVec 32 := Scalar.extui v137
  let c0_i32_70 : BitVec 32 := 0#32
  let v139 : BitVec 1 := Scalar.cmpi .slt v46 c0_i32_70
  let v140 : BitVec 32 := Scalar.extui v139
  let v141 : BitVec 32 := Scalar.subi v138 v140
  let c2_i32_68 : BitVec 32 := 2#32
  let c0_i32_71 : BitVec 32 := 0#32
  let v142 : BitVec 1 := Scalar.cmpi .sgt c2_i32_68 c0_i32_71
  let v143 : BitVec 32 := Scalar.extui v142
  let c0_i32_72 : BitVec 32 := 0#32
  let v144 : BitVec 1 := Scalar.cmpi .slt c2_i32_68 c0_i32_72
  let v145 : BitVec 32 := Scalar.extui v144
  let v146 : BitVec 32 := Scalar.subi v143 v145
  let v147 : BitVec 1 := Scalar.cmpi .ne v141 v146
  let v148 : BitVec 32 := Scalar.remsi v46 c2_i32_68
  let c0_i32_73 : BitVec 32 := 0#32
  let v149 : BitVec 1 := Scalar.cmpi .ne v148 c0_i32_73
  let v150 : BitVec 1 := Scalar.andi v147 v149
  let v136 : BitVec 32 := Scalar.divsi v46 c2_i32_68
  let c1_i32_74 : BitVec 32 := 1#32
  let v151 : BitVec 32 := Scalar.subi v136 c1_i32_74
  let v152 : BitVec 32 := Scalar.select v150 v151 v136
  let c16_i32_669 : BitVec 32 := 16#32
  let v1022 : BitVec 32 := Scalar.muli v152 c16_i32_669
  let v1023 : BitVec 32 := Scalar.addi v937 v1022
  let c16_i32_739 : BitVec 32 := 16#32
  let v1110 : BitVec 32 := Scalar.muli v152 c16_i32_739
  let v1111 : BitVec 32 := Scalar.subi v1023 v1110
  let c32_i32_807 : BitVec 32 := 32#32
  let v1190 : BitVec 32 := Scalar.muli v185 c32_i32_807
  let v1191 : BitVec 32 := Scalar.subi v1111 v1190
  let c64_i32_875 : BitVec 32 := 64#32
  let v1270 : BitVec 32 := Scalar.muli v67 c64_i32_875
  let v1271 : BitVec 32 := Scalar.subi v1191 v1270
  let c128_i32_944 : BitVec 32 := 128#32
  let v1350 : BitVec 32 := Scalar.muli v119 c128_i32_944
  let v1351 : BitVec 32 := Scalar.subi v1271 v1350
  let c1_i32_1009 : BitVec 32 := 1#32
  let c2_i32_1008 : BitVec 32 := 2#32
  let v1424 : BitVec 32 := Scalar.muli c2_i32_1008 v93
  let v1425 : BitVec 32 := Scalar.subi c1_i32_1009 v1424
  let c256_i32_1010 : BitVec 32 := 256#32
  let v1426 : BitVec 32 := Scalar.muli v1425 c256_i32_1010
  let v1427 : BitVec 32 := Scalar.addi v1351 v1426
  let v1457 : BitVec 32 := v1427
  let v1460 : Index := Scalar.indexCast v1457
  let c0_1048 : Index := 0#32
  ![v1460.toNat, 0]
abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x16384, .f32⟩
  | .hbm, ⟨2, _⟩ => ⟨S2x512x256x64, .f32⟩
  | .hbm, ⟨3, _⟩ => ⟨S2x512x256x64, .f32⟩
  | .hbm, ⟨4, _⟩ => ⟨S16384x768, .f32⟩
  | .hbm, ⟨5, _⟩ => ⟨S2x512x16384, .f32⟩
  | .hbm, ⟨6, _⟩ => ⟨S2x512x256x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S2x256x512x512, .f32⟩
  | .hbm, ⟨51, _⟩ => ⟨S_, .f32⟩
  | .hbm, ⟨52, _⟩ => ⟨S2x256x512x512, .f32⟩
  | .hbm, ⟨53, _⟩ => ⟨S2x256x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S2x256x512x512, .i1⟩
  | .hbm, ⟨58, _⟩ => ⟨S2x256x512x512, .f32⟩
  | .hbm, ⟨59, _⟩ => ⟨S2x256x512x512, .f32⟩
  | .hbm, ⟨60, _⟩ => ⟨S_, .f32⟩
  | .hbm, ⟨61, _⟩ => ⟨S2x256x512, .f32⟩
  | .hbm, ⟨62, _⟩ => ⟨S2x256x512x1, .f32⟩
  | .hbm, ⟨63, _⟩ => ⟨S2x256x512x512, .f32⟩
  | .hbm, ⟨64, _⟩ => ⟨S2x256x512x512, .f32⟩
  | .hbm, ⟨65, _⟩ => ⟨S2x256x512x512, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S2x256x512, .f32⟩
  | .hbm, ⟨71, _⟩ => ⟨S2x256x512x1, .f32⟩
  | .hbm, ⟨72, _⟩ => ⟨S_, .f32⟩
  | .hbm, ⟨73, _⟩ => ⟨S_, .f32⟩
  | .hbm, ⟨74, _⟩ => ⟨S2x256x512x1, .i1⟩
  | .hbm, ⟨75, _⟩ => ⟨S2x256x512x1, .f32⟩
  | .hbm, ⟨76, _⟩ => ⟨S2x256x512x1, .f32⟩
  | .hbm, ⟨77, _⟩ => ⟨S2x256x512x512, .f32⟩
  | .hbm, ⟨78, _⟩ => ⟨S2x256x512x512, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S2x256x512x512, .i1⟩
  | .hbm, ⟨83, _⟩ => ⟨S2x256x512x512, .f32⟩
  | .hbm, ⟨84, _⟩ => ⟨S2x256x512x512, .f32⟩
  | .hbm, ⟨85, _⟩ => ⟨S2x256x64x512, .f32⟩
  | .hbm, ⟨86, _⟩ => ⟨S2x512x256x64, .f32⟩
  | .hbm, ⟨87, _⟩ => ⟨S2x512x16384, .f32⟩
  | .hbm, ⟨88, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Shape.lean ====
/-
  The tables of the exchange: which rows, which landing region, which partner each of the twenty remote copies uses,
  and the shapes of one copy. Copy `j = 2 t + hf` is the copy of stage `t` for half `hf` of the rows; the first ten
  belong to the reduce-scatter, the last ten to the all-gather.
-/
module

public import proofs.«01_k».proof.Proof.Gen.KernelIdeal.Points
public import proofs.«01_k».proof.Proof.Gen.KernelIdeal.Skeleton

@[expose] public section

noncomputable section

namespace Cert.KernelIdeal.Ex

open Idealize.ShloMosaic Idealize.SL.Sem Cert.KernelIdeal Cert.KernelIdeal.Gen

/-- The rows a copy carries. -/
def nrow : Fin 20 → ℕ := ![256, 256, 128, 128, 64, 64, 32, 32, 16, 16, 16, 16, 32, 32, 64, 64, 128, 128, 256, 256]
/-- The half of the rows a copy belongs to. -/
def half : Fin 20 → ℕ := ![0, 1, 0, 1, 0, 1, 0, 1, 0, 1, 0, 1, 0, 1, 0, 1, 0, 1, 0, 1]
/-- The first row of the landing region of a copy. -/
def land : Fin 20 → ℕ := ![0, 496, 256, 752, 384, 880, 448, 944, 480, 976, 1472, 1968, 1440, 1936, 1376, 1872, 1248, 1744, 992, 1488]

/-- `n` rows of 768 columns. -/
abbrev Rw (n : ℕ) : Shape := ⟨2, ![n, 768]⟩
/-- The same under a leading axis of extent one. -/
abbrev Rw1 (n : ℕ) : Shape := ⟨3, ![1, n, 768]⟩

/-- Where the rows a copy sends begin in the result array. -/
def giveOff : Fin 20 → Dev nD → Fin 2 → ℕ :=
  ![k0_off1, k0_off2, k0_off5, k0_off6, k0_off9, k0_off10, k0_off13, k0_off14, k0_off17, k0_off18,
    k0_off19, k0_off20, k0_off23, k0_off24, k0_off27, k0_off28, k0_off31, k0_off32, k0_off35, k0_off36]
/-- Where the rows a received copy is worked into begin in the result array. -/
def takeOff : Fin 20 → Dev nD → Fin 2 → ℕ :=
  ![k0_off3, k0_off4, k0_off7, k0_off8, k0_off11, k0_off12, k0_off15, k0_off16, k0_off19, k0_off20,
    k0_off21, k0_off22, k0_off25, k0_off26, k0_off29, k0_off30, k0_off33, k0_off34, k0_off37, k0_off38]
/-- The number of the device a copy is sent to. -/
def peerNat : Fin 20 → Dev nD → ℕ :=
  ![k0_dev6, k0_dev7, k0_dev8, k0_dev9, k0_dev10, k0_dev11, k0_dev12, k0_dev13, k0_dev14, k0_dev15,
    k0_dev16, k0_dev17, k0_dev18, k0_dev19, k0_dev20, k0_dev21, k0_dev22, k0_dev23, k0_dev24, k0_dev25]

/-- A partner is a device. -/
theorem peer_lt : ∀ (j : Fin 20) (c : Dev nD), peerNat j c < nD := by decide +kernel
/-- The rows given are in the result array. -/
theorem give_inb : ∀ (j : Fin 20) (c : Dev nD) (a : Fin 2), giveOff j c a + (Rw (nrow j)).size a ≤ S1024x768.size a := by
  decide +kernel
/-- The rows taken are in the result array. -/
theorem take_inb : ∀ (j : Fin 20) (c : Dev nD) (a : Fin 2), takeOff j c a + (Rw (nrow j)).size a ≤ S1024x768.size a := by
  decide +kernel
/-- The landing rows are in the landing array. -/
theorem land_inb : ∀ (j : Fin 20) (a : Fin 2), (![land j, 0] : Fin 2 → ℕ) a + (Rw (nrow j)).size a ≤ S1984x768.size a := by
  decide +kernel
/-- The rows sent are in the send buffer. -/
theorem send_inb : ∀ (j : Fin 20) (a : Fin 3), (![half j, 0, 0] : Fin 3 → ℕ) a + (Rw1 (nrow j)).size a ≤ S2x256x768.size a := by
  decide +kernel
/-- A copy's number is among the twenty. -/
theorem sem_inb : ∀ (j : Fin 20) (a : Fin 1), (![j.val] : Fin 1 → ℕ) a + S1.size a ≤ S20.size a := by decide
/-- Landing rows are whole words. -/
theorem land_words : ∀ j : Fin 20, (Rect.unit (s := S1984x768) ![land j, 0] (Rw (nrow j)).size (land_inb j)).WholeWords (EltTy.packing .bf16) := by
  decide +kernel
/-- Sent rows are whole words. -/
theorem send_words : ∀ j : Fin 20, (Rect.unit (s := S2x256x768) ![half j, 0, 0] (Rw1 (nrow j)).size (send_inb j)).WholeWords (EltTy.packing .bf16) := by
  decide +kernel
/-- Sent rows are whole packed rows. -/
theorem send_packed : ∀ j : Fin 20, (Rect.unit (s := S2x256x768) ![half j, 0, 0] (Rw1 (nrow j)).size (send_inb j)).PackedRows (EltTy.packing .bf16) := by
  decide +kernel
/-- A copy is not empty. -/
theorem rw_pos : ∀ j : Fin 20, 0 < (Rw (nrow j)).numel := by decide +kernel
/-- Nor is it under a leading axis. -/
theorem rw1_pos : ∀ j : Fin 20, 0 < (Rw1 (nrow j)).numel := by decide +kernel
/-- Dropping the leading axis. -/
theorem rw_squeeze : ∀ j : Fin 20, (Rw1 (nrow j)).Squeezes (Rw (nrow j)) := by decide +kernel
/-- Adding the leading axis. -/
theorem rw_cast : ∀ j : Fin 20, (Rw (nrow j)).ShapeCasts (Rw1 (nrow j)) := by decide +kernel
/-- A shape casts to itself. -/
theorem rw_same : ∀ j : Fin 20, (Rw (nrow j)).ShapeCasts (Rw (nrow j)) := by decide +kernel

end Cert.KernelIdeal.Ex

end
-- ==== Proof.Template.lean ====
/-
  The kernel's body in a readable form: a barrier with the five partners, the attention of the two batches, and ten
  stages of exchange, every stage two copies out and two copies in.
-/
module

public import proofs.«01_k».proof.Proof.Shape

@[expose] public section

noncomputable section

namespace Cert.KernelIdeal.Ex

open Idealize.ShloMosaic Idealize.SL.Sem Cert.KernelIdeal Cert.KernelIdeal.Gen

variable {F : FTy → Type} [FloatOps F]

/-- Programs of a TensorCore of this kernel. -/
abbrev TProg (F : FTy → Type) (R : Type) := Prog (TpuEff nD τ sig (Elt F) Λ₀ .tc) R

section Exchange

variable (out : Memref sig .tc .vmem S1024x768 .f32)
variable (stg : Memref sig .tc .vmem S1984x768 .bf16) (hstg : stg.IsWhole)
variable (buf : Memref sig .tc .vmem S2x256x768 .bf16) (hbuf : buf.IsWhole)
variable (ss rs : DmaSems sig S20)

/-- The facts about a copy of `n` rows from part `h` of the send buffer to the landing rows from `l` on, with semaphore `s`. -/
structure Fits (n h l s : ℕ) : Prop where
  land : ∀ a : Fin 2, (![l, 0] : Fin 2 → ℕ) a + (Rw n).size a ≤ S1984x768.size a
  send : ∀ a : Fin 3, (![h, 0, 0] : Fin 3 → ℕ) a + (Rw1 n).size a ≤ S2x256x768.size a
  sem : ∀ a : Fin 1, (![s] : Fin 1 → ℕ) a + S1.size a ≤ S20.size a
  landWords : (Rect.unit (s := S1984x768) ![l, 0] (Rw n).size land).WholeWords (EltTy.packing .bf16)
  sendWords : (Rect.unit (s := S2x256x768) ![h, 0, 0] (Rw1 n).size send).WholeWords (EltTy.packing .bf16)
  packed : (Rect.unit (s := S2x256x768) ![h, 0, 0] (Rw1 n).size send).PackedRows (EltTy.packing .bf16)
  pos : 0 < (Rw n).numel
  pos1 : 0 < (Rw1 n).numel
  squeeze : (Rw1 n).Squeezes (Rw n)
  cast : (Rw n).ShapeCasts (Rw1 n)
  same : (Rw n).ShapeCasts (Rw n)

/-- The facts hold of every copy. -/
theorem fits (j : Fin 20) : Fits (nrow j) (half j) (land j) j.val :=
  ⟨land_inb j, send_inb j, sem_inb j, land_words j, send_words j, send_packed j, rw_pos j, rw1_pos j, rw_squeeze j, rw_cast j, rw_same j⟩

variable {n h l s : ℕ} (H : Fits n h l s)

/-- Rows `o` and on of the result array. -/
abbrev rowsRect (n : ℕ) (o : Fin 2 → ℕ) (ho : ∀ a, o a + (Rw n).size a ≤ S1024x768.size a) : Rect S1024x768 := Rect.unit (s := S1024x768) o (Rw n).size ho
/-- The landing rows of a copy. -/
abbrev landRect : Rect S1984x768 := Rect.unit (s := S1984x768) ![l, 0] (Rw n).size H.land
/-- The rows of the send buffer a copy leaves from. -/
abbrev sendRect : Rect S2x256x768 := Rect.unit (s := S2x256x768) ![h, 0, 0] (Rw1 n).size H.send
/-- The landing rows of a copy as an array. -/
abbrev landRef : Memref sig .tc .vmem (Rw n) .bf16 := stg.slice (landRect H) (fun _ => rfl)
/-- The source of a copy as an array. -/
abbrev sendRef : Memref sig .tc .vmem (Rw n) .bf16 := (buf.slice (sendRect H) (fun _ => rfl)).squeeze (Rw n) H.squeeze
/-- A semaphore of an array of twenty. -/
abbrev semAt (a : DmaSems sig S20) := ((a.slice (Rect.unit (s := S20) ![s] S1.size H.sem)).squeeze S_ squeezes_S1_S_).sem

/-- What a copy carries: the rows, rounded to sixteen bits, under a leading axis. -/
abbrev carried (v : Vec F (Rw n) .f32) : FVec F (Rw1 n) .bf16 :=
  shapeCast (Rw1 n) (truncf .bf16 (shapeCast (Rw n) v H.same) bitsLt_bf16_f32) H.cast

/-- The rows are put into the send buffer and the copy to the partner is started. -/
def sendP (o : Fin 2 → ℕ) (ho : ∀ a, o a + (Rw n).size a ≤ S1024x768.size a) (p : Dev nD) : TProg F PUnit := do
  let v : Vec F (Rw n) .f32 ← Prog.lift (.load out (rowsRect n o ho).toLoadRect (View.loadsAt_vmem H.pos))
  let _ : Vec F (Rw1 n) .bf16 ← Prog.lift (.load buf (sendRect H).toLoadRect (View.loadsAt_vmem H.pos1))
  Prog.lift (.store buf (sendRect H) (carried H v) Finset.univ
    (View.stores_vmem H.pos1 (hbuf.storeExact_slice rfl _ H.packed) (fun _ => rfl)) (.inl rfl))
  Prog.lift (.enqueueDma (sendRef buf H) (.remote (Dev.tc p) (landRef stg H) (.dma (semAt H ss))) (.dma (semAt H rs))
    ((hbuf.wordExact_slice rfl _ H.sendWords).reshape _ _) (hstg.wordExact_slice rfl _ H.landWords) ⟨⟨rfl, Or.inl rfl⟩, trivial⟩)

/-- The two waits of a copy: the own one has left, the partner's has arrived. -/
def waitP : TProg F PUnit := do
  Prog.lift (.waitDma2 (semAt H ss) (landRef stg H) (sendRef buf H) (hstg.wordExact_slice rfl _ H.landWords) ((hbuf.wordExact_slice rfl _ H.sendWords).reshape _ _))
  Prog.lift (.waitDma2 (semAt H rs) (sendRef buf H) (landRef stg H) ((hbuf.wordExact_slice rfl _ H.sendWords).reshape _ _) (hstg.wordExact_slice rfl _ H.landWords))

/-- The received rows are added to the kept ones. -/
def addP (o : Fin 2 → ℕ) (ho : ∀ a, o a + (Rw n).size a ≤ S1024x768.size a) : TProg F PUnit := do
  let v : Vec F (Rw n) .f32 ← Prog.lift (.load out (rowsRect n o ho).toLoadRect (View.loadsAt_vmem H.pos))
  let w : Vec F (Rw n) .bf16 ← Prog.lift (.load stg (landRect H).toLoadRect (View.loadsAt_vmem H.pos))
  let _ : Vec F (Rw n) .f32 ← Prog.lift (.load out (rowsRect n o ho).toLoadRect (View.loadsAt_vmem H.pos))
  Prog.lift (.store out (rowsRect n o ho) (addf (shapeCast (Rw n) v H.same) (extf .f32 w bitsLt_bf16_f32)) Finset.univ
    (View.stores_vmem_bits_univ H.pos rfl) (.inl rfl))

/-- The received rows replace those of the result array. -/
def setP (o : Fin 2 → ℕ) (ho : ∀ a, o a + (Rw n).size a ≤ S1024x768.size a) : TProg F PUnit := do
  let w : Vec F (Rw n) .bf16 ← Prog.lift (.load stg (landRect H).toLoadRect (View.loadsAt_vmem H.pos))
  let _ : Vec F (Rw n) .f32 ← Prog.lift (.load out (rowsRect n o ho).toLoadRect (View.loadsAt_vmem H.pos))
  Prog.lift (.store out (rowsRect n o ho) (extf .f32 w bitsLt_bf16_f32) Finset.univ (View.stores_vmem_bits_univ H.pos rfl) (.inl rfl))

end Exchange

/-- The block mask as the kernel computes it: the column's block is not past the row's. -/
def maskV : IVec S512x512 1 :=
  k0_pay4 (iota .tc S512x512 32 [0] iota_S512x512_d0_w32) 64#32 k0_pay2 k0_pay3 (Scalar.extui (Scalar.cmpi .sgt 64#32 0#32)) (Scalar.cmpi .slt 64#32 0#32)

/-- One head's attention: the queries are columns `o` to `o + 64` of `q`. -/
abbrev headOut (q : FVec F S512x512 .f32) (o : ℕ) (ho : S512x512.Slices ![0, o] S512x64) (k v : Vec F S1x512x1x64 .bf16) : FVec F S512x64 .f32 :=
  let qh : FVec F S512x64 .bf16 := truncf .bf16 (extractStridedSlice S512x64 ![0, o] q ho) bitsLt_bf16_f32
  let kh : FVec F S512x64 .bf16 := shapeCast S512x64 k shapeCasts_S1x512x1x64_S512x64
  let vh : FVec F S512x64 .bf16 := shapeCast S512x64 v shapeCasts_S1x512x1x64_S512x64
  let s : FVec F S512x512 .f32 := mulf (matmul dot_S512x64_S512x64_S512x512_1_1_0_0_n_n none qh kh (constant S512x512 .f32 0x00000000#32))
    (broadcast S512x512 (Scalar.ofBits .f32 0x3E000000#32 : F .f32))
  let s' : FVec F S512x512 .f32 := select maskV s (broadcast S512x512 (Scalar.ofBits .f32 0xCE6E6B28#32 : F .f32))
  let m : FVec F S512 .f32 := multiReduction .maximumf [1] S512 s' 0xFF800000#32 reduces_S512x512_S512 (.inl rfl) rfl
  let e : FVec F S512x512 .f32 := exp (subf s' (broadcastTo S512x512 (shapeCast S512x1 m shapeCasts_S512_S512x1) broadcasts_S512x1_S512x512))
  let z : FVec F S512 .f32 := multiReduction .add [1] S512 e 0x00000000#32 reduces_S512x512_S512 (.inl rfl) rfl
  let p : FVec F S512x512 .bf16 := truncf .bf16 (divf e (broadcastTo S512x512 (shapeCast S512x1 z shapeCasts_S512_S512x1) broadcasts_S512x1_S512x512)) bitsLt_bf16_f32
  matmul dot_S512x512_S512x64_S512x64_1_0_0_1_n_n none p vh (constant S512x64 .f32 0x00000000#32)

/-- The queries of one batch. -/
abbrev queries (x : Vec F S512x768 .f32) (w : Vec F S768x512 .f32) : FVec F S512x512 .f32 :=
  matmul dot_S512x768_S768x512_S512x512_1_0_0_1_n_n none (shapeCast S512x768 x shapeCasts_S512x768_S512x768)
    (shapeCast S768x512 w shapeCasts_S768x512_S768x512) (constant S512x512 .f32 0x00000000#32)

/-- One batch: the eight heads side by side, times the output weights. -/
abbrev blockOut (x : Vec F S512x768 .f32) (w : Vec F S768x512 .f32) (k0 v0 k1 v1 k2 v2 k3 v3 k4 v4 k5 v5 k6 v6 k7 v7 : Vec F S1x512x1x64 .bf16)
    (wo : Vec F S512x768 .f32) : FVec F S512x768 .f32 :=
  matmul dot_S512x512_S512x768_S512x768_1_0_0_1_n_n none
    (concatenate S512x512 1
      [⟨S512x64, headOut (queries x w) 0 slices_S512x512_o0_0_S512x64 k0 v0⟩, ⟨S512x64, headOut (queries x w) 64 slices_S512x512_o0_64_S512x64 k1 v1⟩,
       ⟨S512x64, headOut (queries x w) 128 slices_S512x512_o0_128_S512x64 k2 v2⟩, ⟨S512x64, headOut (queries x w) 192 slices_S512x512_o0_192_S512x64 k3 v3⟩,
       ⟨S512x64, headOut (queries x w) 256 slices_S512x512_o0_256_S512x64 k4 v4⟩, ⟨S512x64, headOut (queries x w) 320 slices_S512x512_o0_320_S512x64 k5 v5⟩,
       ⟨S512x64, headOut (queries x w) 384 slices_S512x512_o0_384_S512x64 k6 v6⟩, ⟨S512x64, headOut (queries x w) 448 slices_S512x512_o0_448_S512x64 k7 v7⟩]
      concatenates_S512x64_S512x64_S512x64_S512x64_S512x64_S512x64_S512x64_S512x64_S512x512_d1)
    (shapeCast S512x768 wo shapeCasts_S512x768_S512x768) (constant S512x768 .f32 0x00000000#32)

/-- The shapes one batch's loads and its store need. -/
structure BlockFits (r b : ℕ) : Prop where
  rows : ∀ a : Fin 2, (![r, 0] : Fin 2 → ℕ) a + S512x768.size a ≤ S1024x768.size a
  head : ∀ (i : Fin 8) (a : Fin 4), (![b, 0, i.val, 0] : Fin 4 → ℕ) a + S1x512x1x64.size a ≤ S2x512x8x64.size a

/-- The first batch's loads fit. -/
theorem blockFits0 : BlockFits 0 0 := ⟨by decide, by decide⟩
/-- The second batch's loads fit. -/
theorem blockFits1 : BlockFits 512 1 := ⟨by decide, by decide⟩

/-- One batch of the attention: the loads, and the store of its rows. -/
def blockP (x : Memref sig .tc .vmem S1024x768 .f32) (wq : Memref sig .tc .vmem S768x512 .f32) (K V : Memref sig .tc .vmem S2x512x8x64 .bf16)
    (wo : Memref sig .tc .vmem S512x768 .f32) (out : Memref sig .tc .vmem S1024x768 .f32) {r b : ℕ} (H : BlockFits r b) : TProg F PUnit := do
  let x : Vec F S512x768 .f32 ← Prog.lift (.load x (Rect.unit (s := S1024x768) ![r, 0] S512x768.size H.rows).toLoadRect (View.loadsAt_vmem h_S512x768))
  let w : Vec F S768x512 .f32 ← Prog.lift (.load wq (Rect.unit (s := S768x512) ![0, 0] S768x512.size inb_S768x512_S768x512_0_0).toLoadRect (View.loadsAt_vmem h_S768x512))
  let k0 : Vec F S1x512x1x64 .bf16 ← Prog.lift (.load K (Rect.unit (s := S2x512x8x64) ![b, 0, 0, 0] S1x512x1x64.size (H.head 0)).toLoadRect (View.loadsAt_vmem h_S1x512x1x64))
  let v0 : Vec F S1x512x1x64 .bf16 ← Prog.lift (.load V (Rect.unit (s := S2x512x8x64) ![b, 0, 0, 0] S1x512x1x64.size (H.head 0)).toLoadRect (View.loadsAt_vmem h_S1x512x1x64))
  let k1 : Vec F S1x512x1x64 .bf16 ← Prog.lift (.load K (Rect.unit (s := S2x512x8x64) ![b, 0, 1, 0] S1x512x1x64.size (H.head 1)).toLoadRect (View.loadsAt_vmem h_S1x512x1x64))
  let v1 : Vec F S1x512x1x64 .bf16 ← Prog.lift (.load V (Rect.unit (s := S2x512x8x64) ![b, 0, 1, 0] S1x512x1x64.size (H.head 1)).toLoadRect (View.loadsAt_vmem h_S1x512x1x64))
  let k2 : Vec F S1x512x1x64 .bf16 ← Prog.lift (.load K (Rect.unit (s := S2x512x8x64) ![b, 0, 2, 0] S1x512x1x64.size (H.head 2)).toLoadRect (View.loadsAt_vmem h_S1x512x1x64))
  let v2 : Vec F S1x512x1x64 .bf16 ← Prog.lift (.load V (Rect.unit (s := S2x512x8x64) ![b, 0, 2, 0] S1x512x1x64.size (H.head 2)).toLoadRect (View.loadsAt_vmem h_S1x512x1x64))
  let k3 : Vec F S1x512x1x64 .bf16 ← Prog.lift (.load K (Rect.unit (s := S2x512x8x64) ![b, 0, 3, 0] S1x512x1x64.size (H.head 3)).toLoadRect (View.loadsAt_vmem h_S1x512x1x64))
  let v3 : Vec F S1x512x1x64 .bf16 ← Prog.lift (.load V (Rect.unit (s := S2x512x8x64) ![b, 0, 3, 0] S1x512x1x64.size (H.head 3)).toLoadRect (View.loadsAt_vmem h_S1x512x1x64))
  let k4 : Vec F S1x512x1x64 .bf16 ← Prog.lift (.load K (Rect.unit (s := S2x512x8x64) ![b, 0, 4, 0] S1x512x1x64.size (H.head 4)).toLoadRect (View.loadsAt_vmem h_S1x512x1x64))
  let v4 : Vec F S1x512x1x64 .bf16 ← Prog.lift (.load V (Rect.unit (s := S2x512x8x64) ![b, 0, 4, 0] S1x512x1x64.size (H.head 4)).toLoadRect (View.loadsAt_vmem h_S1x512x1x64))
  let k5 : Vec F S1x512x1x64 .bf16 ← Prog.lift (.load K (Rect.unit (s := S2x512x8x64) ![b, 0, 5, 0] S1x512x1x64.size (H.head 5)).toLoadRect (View.loadsAt_vmem h_S1x512x1x64))
  let v5 : Vec F S1x512x1x64 .bf16 ← Prog.lift (.load V (Rect.unit (s := S2x512x8x64) ![b, 0, 5, 0] S1x512x1x64.size (H.head 5)).toLoadRect (View.loadsAt_vmem h_S1x512x1x64))
  let k6 : Vec F S1x512x1x64 .bf16 ← Prog.lift (.load K (Rect.unit (s := S2x512x8x64) ![b, 0, 6, 0] S1x512x1x64.size (H.head 6)).toLoadRect (View.loadsAt_vmem h_S1x512x1x64))
  let v6 : Vec F S1x512x1x64 .bf16 ← Prog.lift (.load V (Rect.unit (s := S2x512x8x64) ![b, 0, 6, 0] S1x512x1x64.size (H.head 6)).toLoadRect (View.loadsAt_vmem h_S1x512x1x64))
  let k7 : Vec F S1x512x1x64 .bf16 ← Prog.lift (.load K (Rect.unit (s := S2x512x8x64) ![b, 0, 7, 0] S1x512x1x64.size (H.head 7)).toLoadRect (View.loadsAt_vmem h_S1x512x1x64))
  let v7 : Vec F S1x512x1x64 .bf16 ← Prog.lift (.load V (Rect.unit (s := S2x512x8x64) ![b, 0, 7, 0] S1x512x1x64.size (H.head 7)).toLoadRect (View.loadsAt_vmem h_S1x512x1x64))
  let o : Vec F S512x768 .f32 ← Prog.lift (.load wo (Rect.unit (s := S512x768) ![0, 0] S512x768.size inb_S512x768_S512x768_0_0).toLoadRect (View.loadsAt_vmem h_S512x768))
  let _ : Vec F S512x768 .f32 ← Prog.lift (.load out (Rect.unit (s := S1024x768) ![r, 0] S512x768.size H.rows).toLoadRect (View.loadsAt_vmem h_S512x768))
  Prog.lift (.store out (Rect.unit (s := S1024x768) ![r, 0] S512x768.size H.rows) (blockOut x w k0 v0 k1 v1 k2 v2 k3 v3 k4 v4 k5 v5 k6 v6 k7 v7 o) Finset.univ
    (View.stores_vmem_bits_univ h_S512x768 rfl) (.inl rfl))

/-- The barrier semaphore. -/
abbrev bar : Sems sig S_ := SemArray.scalar (sig.barrier 0 rfl)

/-- The barrier: a unit to each of the five partners, then five units taken. -/
def meetP (c : Dev nD) : TProg F PUnit := do
  semSignalWord (⟨k0_dev1 c, k0_dev1_lt c⟩ : Dev nD) bar.sem 1#32
  semSignalWord (⟨k0_dev2 c, k0_dev2_lt c⟩ : Dev nD) bar.sem 1#32
  semSignalWord (⟨k0_dev3 c, k0_dev3_lt c⟩ : Dev nD) bar.sem 1#32
  semSignalWord (⟨k0_dev4 c, k0_dev4_lt c⟩ : Dev nD) bar.sem 1#32
  semSignalWord (⟨k0_dev5 c, k0_dev5_lt c⟩ : Dev nD) bar.sem 1#32
  semWaitWord bar.sem 5#32

/-- The ten stages, spelt out. -/
def exchangeL (out : Memref sig .tc .vmem S1024x768 .f32) (stg : Memref sig .tc .vmem S1984x768 .bf16) (hstg : stg.IsWhole)
    (buf : Memref sig .tc .vmem S2x256x768 .bf16) (hbuf : buf.IsWhole) (ss rs : DmaSems sig S20) (c : Dev nD) : TProg F PUnit := do
  sendP out stg hstg buf hbuf ss rs (fits 0 : Fits 256 0 0 0) (k0_off1 c) (k0_off1_inb c) ⟨k0_dev6 c, k0_dev6_lt c⟩
  sendP out stg hstg buf hbuf ss rs (fits 1 : Fits 256 1 496 1) (k0_off2 c) (k0_off2_inb c) ⟨k0_dev7 c, k0_dev7_lt c⟩
  waitP stg hstg buf hbuf ss rs (fits 0 : Fits 256 0 0 0)
  addP out stg (fits 0 : Fits 256 0 0 0) (k0_off3 c) (k0_off3_inb c)
  waitP stg hstg buf hbuf ss rs (fits 1 : Fits 256 1 496 1)
  addP out stg (fits 1 : Fits 256 1 496 1) (k0_off4 c) (k0_off4_inb c)
  sendP out stg hstg buf hbuf ss rs (fits 2 : Fits 128 0 256 2) (k0_off5 c) (k0_off5_inb c) ⟨k0_dev8 c, k0_dev8_lt c⟩
  sendP out stg hstg buf hbuf ss rs (fits 3 : Fits 128 1 752 3) (k0_off6 c) (k0_off6_inb c) ⟨k0_dev9 c, k0_dev9_lt c⟩
  waitP stg hstg buf hbuf ss rs (fits 2 : Fits 128 0 256 2)
  addP out stg (fits 2 : Fits 128 0 256 2) (k0_off7 c) (k0_off7_inb c)
  waitP stg hstg buf hbuf ss rs (fits 3 : Fits 128 1 752 3)
  addP out stg (fits 3 : Fits 128 1 752 3) (k0_off8 c) (k0_off8_inb c)
  sendP out stg hstg buf hbuf ss rs (fits 4 : Fits 64 0 384 4) (k0_off9 c) (k0_off9_inb c) ⟨k0_dev10 c, k0_dev10_lt c⟩
  sendP out stg hstg buf hbuf ss rs (fits 5 : Fits 64 1 880 5) (k0_off10 c) (k0_off10_inb c) ⟨k0_dev11 c, k0_dev11_lt c⟩
  waitP stg hstg buf hbuf ss rs (fits 4 : Fits 64 0 384 4)
  addP out stg (fits 4 : Fits 64 0 384 4) (k0_off11 c) (k0_off11_inb c)
  waitP stg hstg buf hbuf ss rs (fits 5 : Fits 64 1 880 5)
  addP out stg (fits 5 : Fits 64 1 880 5) (k0_off12 c) (k0_off12_inb c)
  sendP out stg hstg buf hbuf ss rs (fits 6 : Fits 32 0 448 6) (k0_off13 c) (k0_off13_inb c) ⟨k0_dev12 c, k0_dev12_lt c⟩
  sendP out stg hstg buf hbuf ss rs (fits 7 : Fits 32 1 944 7) (k0_off14 c) (k0_off14_inb c) ⟨k0_dev13 c, k0_dev13_lt c⟩
  waitP stg hstg buf hbuf ss rs (fits 6 : Fits 32 0 448 6)
  addP out stg (fits 6 : Fits 32 0 448 6) (k0_off15 c) (k0_off15_inb c)
  waitP stg hstg buf hbuf ss rs (fits 7 : Fits 32 1 944 7)
  addP out stg (fits 7 : Fits 32 1 944 7) (k0_off16 c) (k0_off16_inb c)
  sendP out stg hstg buf hbuf ss rs (fits 8 : Fits 16 0 480 8) (k0_off17 c) (k0_off17_inb c) ⟨k0_dev14 c, k0_dev14_lt c⟩
  sendP out stg hstg buf hbuf ss rs (fits 9 : Fits 16 1 976 9) (k0_off18 c) (k0_off18_inb c) ⟨k0_dev15 c, k0_dev15_lt c⟩
  waitP stg hstg buf hbuf ss rs (fits 8 : Fits 16 0 480 8)
  addP out stg (fits 8 : Fits 16 0 480 8) (k0_off19 c) (k0_off19_inb c)
  waitP stg hstg buf hbuf ss rs (fits 9 : Fits 16 1 976 9)
  addP out stg (fits 9 : Fits 16 1 976 9) (k0_off20 c) (k0_off20_inb c)
  sendP out stg hstg buf hbuf ss rs (fits 10 : Fits 16 0 1472 10) (k0_off19 c) (k0_off19_inb c) ⟨k0_dev16 c, k0_dev16_lt c⟩
  sendP out stg hstg buf hbuf ss rs (fits 11 : Fits 16 1 1968 11) (k0_off20 c) (k0_off20_inb c) ⟨k0_dev17 c, k0_dev17_lt c⟩
  waitP stg hstg buf hbuf ss rs (fits 10 : Fits 16 0 1472 10)
  setP out stg (fits 10 : Fits 16 0 1472 10) (k0_off21 c) (k0_off21_inb c)
  waitP stg hstg buf hbuf ss rs (fits 11 : Fits 16 1 1968 11)
  setP out stg (fits 11 : Fits 16 1 1968 11) (k0_off22 c) (k0_off22_inb c)
  sendP out stg hstg buf hbuf ss rs (fits 12 : Fits 32 0 1440 12) (k0_off23 c) (k0_off23_inb c) ⟨k0_dev18 c, k0_dev18_lt c⟩
  sendP out stg hstg buf hbuf ss rs (fits 13 : Fits 32 1 1936 13) (k0_off24 c) (k0_off24_inb c) ⟨k0_dev19 c, k0_dev19_lt c⟩
  waitP stg hstg buf hbuf ss rs (fits 12 : Fits 32 0 1440 12)
  setP out stg (fits 12 : Fits 32 0 1440 12) (k0_off25 c) (k0_off25_inb c)
  waitP stg hstg buf hbuf ss rs (fits 13 : Fits 32 1 1936 13)
  setP out stg (fits 13 : Fits 32 1 1936 13) (k0_off26 c) (k0_off26_inb c)
  sendP out stg hstg buf hbuf ss rs (fits 14 : Fits 64 0 1376 14) (k0_off27 c) (k0_off27_inb c) ⟨k0_dev20 c, k0_dev20_lt c⟩
  sendP out stg hstg buf hbuf ss rs (fits 15 : Fits 64 1 1872 15) (k0_off28 c) (k0_off28_inb c) ⟨k0_dev21 c, k0_dev21_lt c⟩
  waitP stg hstg buf hbuf ss rs (fits 14 : Fits 64 0 1376 14)
  setP out stg (fits 14 : Fits 64 0 1376 14) (k0_off29 c) (k0_off29_inb c)
  waitP stg hstg buf hbuf ss rs (fits 15 : Fits 64 1 1872 15)
  setP out stg (fits 15 : Fits 64 1 1872 15) (k0_off30 c) (k0_off30_inb c)
  sendP out stg hstg buf hbuf ss rs (fits 16 : Fits 128 0 1248 16) (k0_off31 c) (k0_off31_inb c) ⟨k0_dev22 c, k0_dev22_lt c⟩
  sendP out stg hstg buf hbuf ss rs (fits 17 : Fits 128 1 1744 17) (k0_off32 c) (k0_off32_inb c) ⟨k0_dev23 c, k0_dev23_lt c⟩
  waitP stg hstg buf hbuf ss rs (fits 16 : Fits 128 0 1248 16)
  setP out stg (fits 16 : Fits 128 0 1248 16) (k0_off33 c) (k0_off33_inb c)
  waitP stg hstg buf hbuf ss rs (fits 17 : Fits 128 1 1744 17)
  setP out stg (fits 17 : Fits 128 1 1744 17) (k0_off34 c) (k0_off34_inb c)
  sendP out stg hstg buf hbuf ss rs (fits 18 : Fits 256 0 992 18) (k0_off35 c) (k0_off35_inb c) ⟨k0_dev24 c, k0_dev24_lt c⟩
  sendP out stg hstg buf hbuf ss rs (fits 19 : Fits 256 1 1488 19) (k0_off36 c) (k0_off36_inb c) ⟨k0_dev25 c, k0_dev25_lt c⟩
  waitP stg hstg buf hbuf ss rs (fits 18 : Fits 256 0 992 18)
  setP out stg (fits 18 : Fits 256 0 992 18) (k0_off37 c) (k0_off37_inb c)
  waitP stg hstg buf hbuf ss rs (fits 19 : Fits 256 1 1488 19)
  setP out stg (fits 19 : Fits 256 1 1488 19) (k0_off38 c) (k0_off38_inb c)

set_option maxRecDepth 65536 in
set_option maxHeartbeats 4000000 in
/-- The kernel's body is the barrier, the two batches and the exchange. -/
theorem body_split (arg0 : Memref sig .tc .vmem S1024x768 .f32) (harg0 : arg0.IsWhole) (arg1 : Memref sig .tc .vmem S768x512 .f32) (harg1 : arg1.IsWhole) (arg2 : Memref sig .tc .vmem S2x512x8x64 .bf16) (harg2 : arg2.IsWhole) (arg3 : Memref sig .tc .vmem S2x512x8x64 .bf16) (harg3 : arg3.IsWhole) (arg4 : Memref sig .tc .vmem S512x768 .f32) (harg4 : arg4.IsWhole) (arg5 : Memref sig .tc .vmem S1024x768 .f32) (harg5 : arg5.IsWhole) (arg6 : Memref sig .tc .vmem S1984x768 .bf16) (harg6 : arg6.IsWhole) (arg7 : Memref sig .tc .vmem S2x256x768 .bf16) (harg7 : arg7.IsWhole) (arg8 : DmaSems sig S20) (arg9 : DmaSems sig S20) :
    cc0_body_skel (F := F) arg0 harg0 arg1 harg1 arg2 harg2 arg3 harg3 arg4 harg4 arg5 harg5 arg6 harg6 arg7 harg7 arg8 arg9
      = (Prog.lift .deviceId >>= fun c : Dev nD => meetP c >>= fun _ => blockP arg0 arg1 arg2 arg3 arg4 arg5 blockFits0 >>= fun _ =>
          blockP arg0 arg1 arg2 arg3 arg4 arg5 blockFits1 >>= fun _ => exchangeL arg5 arg6 harg6 arg7 harg7 arg8 arg9 c) := by
  simp only [cc0_body_skel, k0_part45, meetP, blockP, exchangeL, sendP, waitP, addP, setP, bind_assoc, pure_bind,
    k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel,
    k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42]
  rfl

end Cert.KernelIdeal.Ex

end
-- ==== Proof.Mesh.lean ====
/-
  The mesh of the exchange: who is whose partner, which rows go where, and the exchange with its steps read from the
  tables.
-/
module

public import proofs.«01_k».proof.Proof.Template

@[expose] public section

noncomputable section

namespace Cert.KernelIdeal.Ex

open Idealize.ShloMosaic Idealize.SL.Sem Cert.KernelIdeal Cert.KernelIdeal.Gen

/-- The device copy `j` of device `c` is sent to. -/
def peer (j : Fin 20) (c : Dev nD) : Dev nD := ⟨peerNat j c, peer_lt j c⟩
/-- The partner of level `l`: the device that differs in the `l`-th bit of its position. -/
def pal (l : Fin 5) (c : Dev nD) : Dev nD := (![⟨k0_dev1 c, k0_dev1_lt c⟩, ⟨k0_dev2 c, k0_dev2_lt c⟩, ⟨k0_dev3 c, k0_dev3_lt c⟩,
  ⟨k0_dev4 c, k0_dev4_lt c⟩, ⟨k0_dev5 c, k0_dev5_lt c⟩] : Fin 5 → Dev nD) l
/-- The level a copy travels along. -/
def lvl : Fin 20 → Fin 5 := ![0, 1, 1, 2, 2, 0, 3, 4, 4, 3, 4, 3, 3, 4, 2, 0, 1, 2, 0, 1]

/-- A copy's partner is the partner at the copy's level. -/
theorem peer_pal : ∀ (j : Fin 20) (c : Dev nD), peer j c = pal (lvl j) c := by decide +kernel
/-- The partner's partner is the device itself. -/
theorem pal_pal : ∀ (l : Fin 5) (c : Dev nD), pal l (pal l c) = c := by decide +kernel
/-- A device's five partners are distinct. -/
theorem pal_inj : ∀ (c : Dev nD) (l l' : Fin 5), pal l c = pal l' c → l = l' := by decide +kernel
/-- The partner's partner in a copy is the device itself. -/
theorem peer_peer (j : Fin 20) (c : Dev nD) : peer j (peer j c) = c := by rw [peer_pal, peer_pal, pal_pal]
/-- What the partner sends lies where the own device takes it. -/
theorem give_peer : ∀ (j : Fin 20) (c : Dev nD) (a : Fin 2), giveOff j (peer j c) a = takeOff j c a := by decide +kernel
/-- The rows taken begin at column 0. -/
theorem take_col : ∀ (j : Fin 20) (c : Dev nD), takeOff j c 1 = 0 := by decide +kernel
/-- The rows given begin at column 0. -/
theorem give_col : ∀ (j : Fin 20) (c : Dev nD), giveOff j c 1 = 0 := by decide +kernel
/-- The rows a copy takes lie in the half it belongs to. -/
theorem take_half : ∀ (j : Fin 20) (c : Dev nD), half j * 512 ≤ takeOff j c 0 ∧ takeOff j c 0 + nrow j ≤ half j * 512 + 512 := by decide +kernel
/-- The rows given lie in the copy's half. -/
theorem give_half : ∀ (j : Fin 20) (c : Dev nD), half j * 512 ≤ giveOff j c 0 ∧ giveOff j c 0 + nrow j ≤ half j * 512 + 512 := by decide +kernel

/-- The rows copy `j` takes. -/
abbrev takeRect (j : Fin 20) (c : Dev nD) : Rect S1024x768 := rowsRect (nrow j) (takeOff j c) (take_inb j c)
/-- The rows copy `j` sends. -/
abbrev giveRect (j : Fin 20) (c : Dev nD) : Rect S1024x768 := rowsRect (nrow j) (giveOff j c) (give_inb j c)

/-- What the partner gives is where the device takes. -/
theorem give_take (j : Fin 20) (c : Dev nD) : giveOff j (peer j c) = takeOff j c := funext (give_peer j c)

/-- The copy of stage `t` for half `hf`. -/
def cp (t : Fin 10) (hf : Fin 2) : Fin 20 := ⟨2 * t.val + hf.val, by omega⟩

/-- The copies of a stage belong to the two halves. -/
theorem cp_half : ∀ (t : Fin 10) (hf : Fin 2), half (cp t hf) = hf.val := by decide

section Programs

variable {F : FTy → Type} [FloatOps F]
variable (out : Memref sig .tc .vmem S1024x768 .f32)
variable (stg : Memref sig .tc .vmem S1984x768 .bf16) (hstg : stg.IsWhole)
variable (buf : Memref sig .tc .vmem S2x256x768 .bf16) (hbuf : buf.IsWhole)
variable (ss rs : DmaSems sig S20)

/-- Copy `j` of device `c` is started. -/
def sendJ (j : Fin 20) (c : Dev nD) : TProg F PUnit :=
  sendP out stg hstg buf hbuf ss rs (fits j) (giveOff j c) (give_inb j c) (peer j c)
/-- What copy `j` brought is worked into the result array: added while reducing, put in place while gathering. -/
def takeJ (j : Fin 20) (c : Dev nD) : TProg F PUnit :=
  if j.val < 10 then addP out stg (fits j) (takeOff j c) (take_inb j c) else setP out stg (fits j) (takeOff j c) (take_inb j c)

/-- One stage: both halves are sent, then both are received. -/
def stage (t : Fin 10) (c : Dev nD) : TProg F PUnit := do
  sendJ out stg hstg buf hbuf ss rs (cp t 0) c
  sendJ out stg hstg buf hbuf ss rs (cp t 1) c
  waitP stg hstg buf hbuf ss rs (fits (cp t 0))
  takeJ out stg (cp t 0) c
  waitP stg hstg buf hbuf ss rs (fits (cp t 1))
  takeJ out stg (cp t 1) c

/-- The ten stages. -/
def exchange (c : Dev nD) : TProg F PUnit := do
  stage out stg hstg buf hbuf ss rs 0 c
  stage out stg hstg buf hbuf ss rs 1 c
  stage out stg hstg buf hbuf ss rs 2 c
  stage out stg hstg buf hbuf ss rs 3 c
  stage out stg hstg buf hbuf ss rs 4 c
  stage out stg hstg buf hbuf ss rs 5 c
  stage out stg hstg buf hbuf ss rs 6 c
  stage out stg hstg buf hbuf ss rs 7 c
  stage out stg hstg buf hbuf ss rs 8 c
  stage out stg hstg buf hbuf ss rs 9 c

/-- A stage of the reduce-scatter, its copies at their numbers. -/
theorem stage_add (t : Fin 10) (c : Dev nD) (h0 : (cp t 0).val < 10) (h1 : (cp t 1).val < 10) :
    stage (F := F) out stg hstg buf hbuf ss rs t c = (do
      sendP out stg hstg buf hbuf ss rs (fits (cp t 0)) (giveOff (cp t 0) c) (give_inb (cp t 0) c) (peer (cp t 0) c)
      sendP out stg hstg buf hbuf ss rs (fits (cp t 1)) (giveOff (cp t 1) c) (give_inb (cp t 1) c) (peer (cp t 1) c)
      waitP stg hstg buf hbuf ss rs (fits (cp t 0))
      addP out stg (fits (cp t 0)) (takeOff (cp t 0) c) (take_inb (cp t 0) c)
      waitP stg hstg buf hbuf ss rs (fits (cp t 1))
      addP out stg (fits (cp t 1)) (takeOff (cp t 1) c) (take_inb (cp t 1) c)) := by
  unfold stage sendJ takeJ
  rw [if_pos h0, if_pos h1]

/-- A stage of the all-gather, its copies at their numbers. -/
theorem stage_set (t : Fin 10) (c : Dev nD) (h0 : ¬ (cp t 0).val < 10) (h1 : ¬ (cp t 1).val < 10) :
    stage (F := F) out stg hstg buf hbuf ss rs t c = (do
      sendP out stg hstg buf hbuf ss rs (fits (cp t 0)) (giveOff (cp t 0) c) (give_inb (cp t 0) c) (peer (cp t 0) c)
      sendP out stg hstg buf hbuf ss rs (fits (cp t 1)) (giveOff (cp t 1) c) (give_inb (cp t 1) c) (peer (cp t 1) c)
      waitP stg hstg buf hbuf ss rs (fits (cp t 0))
      setP out stg (fits (cp t 0)) (takeOff (cp t 0) c) (take_inb (cp t 0) c)
      waitP stg hstg buf hbuf ss rs (fits (cp t 1))
      setP out stg (fits (cp t 1)) (takeOff (cp t 1) c) (take_inb (cp t 1) c)) := by
  unfold stage sendJ takeJ
  rw [if_neg h0, if_neg h1]

/-- The exchange spelt out is the exchange read from the tables. -/
theorem exchangeL_eq (c : Dev nD) : exchangeL (F := F) out stg hstg buf hbuf ss rs c = exchange out stg hstg buf hbuf ss rs c := by
  rw [exchange, stage_add _ _ _ _ _ _ _ 0 c (by decide) (by decide), stage_add _ _ _ _ _ _ _ 1 c (by decide) (by decide),
    stage_add _ _ _ _ _ _ _ 2 c (by decide) (by decide), stage_add _ _ _ _ _ _ _ 3 c (by decide) (by decide),
    stage_add _ _ _ _ _ _ _ 4 c (by decide) (by decide), stage_set _ _ _ _ _ _ _ 5 c (by decide) (by decide),
    stage_set _ _ _ _ _ _ _ 6 c (by decide) (by decide), stage_set _ _ _ _ _ _ _ 7 c (by decide) (by decide),
    stage_set _ _ _ _ _ _ _ 8 c (by decide) (by decide), stage_set _ _ _ _ _ _ _ 9 c (by decide) (by decide)]
  simp only [bind_assoc]
  rfl

end Programs

end Cert.KernelIdeal.Ex

end
-- ==== Proof.Sim.lean ====
/-
  What the result arrays hold as the exchange goes on: one array a device, changed by one copy after another.
-/
module

public import proofs.«01_k».proof.Proof.Mesh

@[expose] public section

noncomputable section

namespace Cert.KernelIdeal.Ex

open Idealize.ShloMosaic Idealize.SL.Sem Cert.KernelIdeal Cert.KernelIdeal.Gen

section Put

variable {s : Shape} {α : Type}

open Classical in
/-- The array with the elements under a rectangle replaced. -/
def put (r : Rect s) (w : r.shape.Idx → α) (X : s.Idx → α) : s.Idx → α :=
  fun i => if h : ∃ x, r.emb x = i then w h.choose else X i

/-- Under the rectangle the new contents stand. -/
theorem put_emb (r : Rect s) (w : r.shape.Idx → α) (X : s.Idx → α) (x : r.shape.Idx) : put r w X (r.emb x) = w x := by
  have h : ∃ y, r.emb y = r.emb x := ⟨x, rfl⟩
  unfold put
  rw [dif_pos h, r.emb.injective h.choose_spec]

/-- Off the rectangle the old contents stand. -/
theorem put_of_not (r : Rect s) (w : r.shape.Idx → α) (X : s.Idx → α) (i : s.Idx) (h : ¬ ∃ x, r.emb x = i) : put r w X i = X i :=
  dif_neg h

/-- An array that reads so on the rectangle and is unchanged elsewhere is the replaced one. -/
theorem eq_put {r : Rect s} {w : r.shape.Idx → α} {X Y : s.Idx → α} (h : ∀ x, Y (r.emb x) = w x) (h' : ∀ i, (¬ ∃ x, r.emb x = i) → Y i = X i) :
    Y = put r w X := by
  funext i
  by_cases hi : ∃ x, r.emb x = i
  · obtain ⟨x, rfl⟩ := hi
    rw [put_emb, h]
  · rw [put_of_not _ _ _ _ hi, h' i hi]

end Put

variable {F : FTy → Type} [FloatOps F]

/-- An array of the result's shape. -/
abbrev Res (F : FTy → Type) := S1024x768.Idx → Elt F .f32

/-- Rows of an array. -/
def rowsOf (n : ℕ) (o : Fin 2 → ℕ) (ho : ∀ a, o a + (Rw n).size a ≤ S1024x768.size a) (Y : Res F) : Vec F (Rw n) .f32 :=
  fun x => Y ((rowsRect n o ho).emb x)

/-- Rows of an array, rounded to sixteen bits: what a copy carries. -/
def rounded (n : ℕ) (hn : (Rw n).ShapeCasts (Rw n)) (o : Fin 2 → ℕ) (ho : ∀ a, o a + (Rw n).size a ≤ S1024x768.size a) (Y : Res F) : FVec F (Rw n) .bf16 :=
  truncf .bf16 (shapeCast (Rw n) (rowsOf n o ho Y) hn) bitsLt_bf16_f32

/-- What copy `j` brings to device `c` when its partner's array is `Y`. -/
def brought (j : Fin 20) (c : Dev nD) (Y : Res F) : FVec F (Rw (nrow j)) .bf16 := rounded (nrow j) (fits j).same (takeOff j c) (take_inb j c) Y

/-- The rows device `c` stores once copy `j` has brought `y`, its own array being `X`. -/
def merged (j : Fin 20) (c : Dev nD) (X : Res F) (y : FVec F (Rw (nrow j)) .bf16) : Vec F (Rw (nrow j)) .f32 :=
  if j.val < 10 then
    addf (shapeCast (Rw (nrow j)) (rowsOf (nrow j) (takeOff j c) (take_inb j c) X) (fits j).same) (extf .f32 y bitsLt_bf16_f32)
  else extf .f32 y bitsLt_bf16_f32

/-- One copy worked in, on every device. -/
def step (j : Fin 20) (X : Dev nD → Res F) (c : Dev nD) : Res F :=
  put (takeRect j c) (merged j c (X c) (brought j c (X (peer j c)))) (X c)

/-- The arrays once the first `n` copies are worked in, from `P` on. -/
def V (P : Dev nD → Res F) : ℕ → Dev nD → Res F
  | 0 => P
  | n + 1 => if h : n < 20 then step ⟨n, h⟩ (V P n) else V P n

variable (P : Dev nD → Res F)

/-- The recursion, one copy on. -/
theorem V_succ (j : Fin 20) (c : Dev nD) : V P (j.val + 1) c = step j (V P j.val) c := by
  show (if h : j.val < 20 then step ⟨j.val, h⟩ (V P j.val) else V P j.val) c = _
  rw [dif_pos j.isLt]

/-- What copy `j` brings to device `c`. -/
def landed (j : Fin 20) (c : Dev nD) : FVec F (Rw (nrow j)) .bf16 := brought j c (V P j.val (peer j c))

/-- The row of an element under a rectangle of rows. -/
theorem rows_val (n : ℕ) (o : Fin 2 → ℕ) (ho : ∀ a, o a + (Rw n).size a ≤ S1024x768.size a) (x : (Rw n).Idx) (a : Fin 2) :
    ((rowsRect n o ho).emb x a : ℕ) = o a + (x a).val := by
  rw [Rect.emb_apply]
  show o a + 1 * (x a).val = _
  rw [Nat.one_mul]

/-- Working in a copy of one half leaves the rows of the other alone. -/
theorem step_other (j : Fin 20) (X : Dev nD → Res F) (c : Dev nD) (n : ℕ) (o : Fin 2 → ℕ) (ho : ∀ a, o a + (Rw n).size a ≤ S1024x768.size a) (h : ℕ)
    (hh : h ≠ half j) (h1 : h * 512 ≤ o 0) (h2 : o 0 + n ≤ h * 512 + 512) (x : (Rw n).Idx) :
    step j X c ((rowsRect n o ho).emb x) = X c ((rowsRect n o ho).emb x) := by
  refine put_of_not _ _ _ _ fun ⟨y, hy⟩ => hh ?_
  have e := congrArg (fun i : S1024x768.Idx => (i 0).val) hy
  simp only at e
  rw [rows_val, rows_val] at e
  have b := take_half j c
  have hx : (x 0).val < n := (x 0).isLt
  have hy : (y 0).val < nrow j := (y 0).isLt
  omega

/-- The rows of half one are the same before and after the copy of half zero of a stage. -/
theorem V_second (t : Fin 10) (c : Dev nD) (o : Fin 2 → ℕ) (n : ℕ) (ho : ∀ a, o a + (Rw n).size a ≤ S1024x768.size a)
    (h1 : 512 ≤ o 0) (x : (Rw n).Idx) :
    V P (cp t 1).val c ((rowsRect n o ho).emb x) = V P (cp t 0).val c ((rowsRect n o ho).emb x) := by
  have e : (cp t 1).val = (cp t 0).val + 1 := rfl
  rw [e, V_succ]
  have hb : o 0 + n ≤ 1024 := ho 0
  exact step_other (cp t 0) _ c n o ho 1 (by rw [cp_half]; decide) (by omega) (by omega) x

/-- Rounded rows agree when the rows do. -/
theorem rounded_congr (n : ℕ) (hn : (Rw n).ShapeCasts (Rw n)) {o o' : Fin 2 → ℕ} (ho : ∀ a, o a + (Rw n).size a ≤ S1024x768.size a)
    (ho' : ∀ a, o' a + (Rw n).size a ≤ S1024x768.size a) (h : o = o') {Y Y' : Res F} (hY : ∀ x, Y ((rowsRect n o ho).emb x) = Y' ((rowsRect n o ho).emb x)) :
    rounded n hn o ho Y = rounded n hn o' ho' Y' := by
  subst h
  unfold rounded
  rw [show rowsOf n o ho Y = rowsOf n o ho' Y' from funext hY]

/-- At the start of stage `t` the rows copy `j` of half `hf` takes are what they are when it is worked in. -/
theorem V_start (t : Fin 10) (hf : Fin 2) (c : Dev nD) (o : Fin 2 → ℕ) (n : ℕ) (ho : ∀ a, o a + (Rw n).size a ≤ S1024x768.size a)
    (h1 : hf.val * 512 ≤ o 0) (x : (Rw n).Idx) :
    V P (cp t 0).val c ((rowsRect n o ho).emb x) = V P (cp t hf).val c ((rowsRect n o ho).emb x) := by
  match hf, h1 with
  | 0, _ => rfl
  | 1, h1 => exact (V_second P t c o n ho (by simpa using h1) x).symm

/-- What device `c` puts on the wire for copy `j`, from an array that agrees on the rows with the one at the copy, is what the partner expects. -/
theorem sent_of_eq (j : Fin 20) (c : Dev nD) (Y : Res F)
    (hY : ∀ x, Y ((giveRect j c).emb x) = V P j.val c ((giveRect j c).emb x)) :
    rounded (nrow j) (fits j).same (giveOff j c) (give_inb j c) Y = landed P j (peer j c) := by
  have hg : giveOff j c = takeOff j (peer j c) := by rw [← give_take, peer_peer]
  unfold landed brought
  rw [peer_peer]
  exact rounded_congr (nrow j) _ _ _ hg hY

/-- What device `c` puts on the wire for copy `j` of stage `t`, at the stage's start, is what the partner expects. -/
theorem sent_eq (t : Fin 10) (hf : Fin 2) (c : Dev nD) :
    rounded (nrow (cp t hf)) (fits (cp t hf)).same (giveOff (cp t hf) c) (give_inb (cp t hf) c) (V P (cp t 0).val c) = landed P (cp t hf) (peer (cp t hf) c) := by
  have hb := (give_half (cp t hf) c).1
  rw [cp_half] at hb
  exact sent_of_eq P (cp t hf) c _ fun x => V_start P t hf c _ _ _ hb x

end Cert.KernelIdeal.Ex

end
-- ==== Proof.Own.lean ====
/-
  Loads and stores through an array that is owned at stated contents.
-/
module

public import proofs.«01_k».proof.Proof.Sim
public import Idealize.ShloMosaic.Lib.Pipeline.Launch
public import Idealize.ShloMosaic.Lib.Pipeline.Kit
public import Idealize.ShloMosaic.Lib.Memref
public import Idealize.ShloMosaic.Lib.ViewIndex
public import Idealize.ShloMosaic.Lib.Tactic

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a cell: one for each of five partners at most. -/
abbrev UT : Type := URounds (GSem nD τ sig) (Fin 5)
/-- The algebra of the proof: the pipeline's cells, and the exchange's. -/
abbrev UU : Type := UR sig nD τ × UT

local notation "𝕄" => MT nD τ sig Unit (Elt F) ℕ UU ℕ

/-- Where the pipeline's ghost state lives. -/
abbrev EP : Emb (UR sig nD τ) (MT nD τ sig Unit (Elt F) ℕ UU ℕ) := embL
/-- Where the ghost state of the rounds lives. -/
abbrev ER : Emb UT (MT nD τ sig Unit (Elt F) ℕ UU ℕ) := embR

/-- No variants. -/
abbrev 𝒱₀ : Variants := Variants.none

/-- What a program of device `c` must meet. -/
abbrev wpc (c : Dev nD) {α : Type} (p : TProg F α) (Q : α → sProp 𝕄) : sProp 𝕄 :=
  wp frame (wpE (defs₀ (F := F)) 𝒱₀ (c : Thread nD τ) none) Set.univ p Q

/-- A program that has returned. -/
theorem ret_wpc (c : Dev nD) {α : Type} {a : α} {Q : α → sProp 𝕄} : Q a ⊢ wpc (F := F) c (.ret a) Q := by
  show Q a ⊢ iprop(|={Set.univ}[frame]=> Q a)
  iintro H
  imodintro
  iexact H

/-- One program after another. -/
theorem seq_wpc (c : Dev nD) {α β : Type} (p : TProg F α) (k : α → TProg F β) (Q : β → sProp 𝕄) :
    wpc c p (fun a => wpc c (k a) Q) ⊢ wpc c (p >>= k) Q := by
  unfold wpc
  rw [wp_bind]

variable {sp : CoreSpace} {s : Shape} {e : EltTy}

/-- A load of a rectangle of an owned array continues at the array's elements. -/
theorem load_owns (c : Dev nD) (m : Memref sig .tc sp s e) (r : Rect s) (q : PosShare TreeShare) (X : s.Idx → Elt F e) {hl : m.view.LoadsAt r.toLoadRect} {α : Type}
    {k : (r.shape.Idx → Elt F e) → TProg F α} {Q : α → sProp 𝕄} :
    (owns (c : Thread nD τ) m q X : sProp 𝕄)
      ⊢ iprop((owns (c : Thread nD τ) m q X -∗ wpc c (k (fun x => X (r.emb x))) Q) -∗ wpc c (.op (.load m r.toLoadRect hl) k) Q) := by
  iintro H Hk
  ihave H' := (show owns (c : Thread nD τ) m q X ⊢ iprop(∃ g, ⌜m.view.read (Elt F) g = X⌝ ∗ m.view.loc (c : Thread nD τ) ↦[m.view.set]{q} g) from .rfl) $$ H
  icases H' with ⟨%g, %hg, H⟩
  subst hg
  iapply (wp_load_rect 𝒱₀ (c : Thread nD τ) none Set.univ (m := m) (r := r) (S := m.view.set) (q := q) (f := g) (View.set_slice_subset m.view r)) $$ H
  iintro H
  iapply Hk
  iapply (owns_intro (c : Thread nD τ) m q g)
  iexact H

/-- A store to a rectangle of an owned array replaces its elements. -/
theorem store_owns (c : Dev nD) (m : Memref sig .tc sp s e) (r : Rect s) (w : r.shape.Idx → Elt F e) (X : s.Idx → Elt F e) {hx : (m.access r).Stores Finset.univ}
    {hm : (Finset.univ : Finset r.shape.Idx) = Finset.univ ∨ ∀ a, r.stride a = 1} {α : Type} {k : PUnit → TProg F α} {Q : α → sProp 𝕄} :
    (owns (c : Thread nD τ) m fullShare X : sProp 𝕄)
      ⊢ iprop((owns (c : Thread nD τ) m fullShare (put r w X) -∗ wpc c (k ⟨⟩) Q) -∗ wpc c (.op (.store m r w Finset.univ hx hm) k) Q) := by
  iintro H Hk
  ihave H' := (show owns (c : Thread nD τ) m fullShare X ⊢ iprop(∃ g, ⌜m.view.read (Elt F) g = X⌝ ∗ m.view.loc (c : Thread nD τ) ↦[m.view.set]{fullShare} g) from .rfl) $$ H
  icases H' with ⟨%g, %hg, H⟩
  subst hg
  iapply (wp_store 𝒱₀ (c : Thread nD τ) none Set.univ (m := m) (r := r) (w := w) (Mk := Finset.univ) (S := m.view.set) (f := g)
    (by rw [View.setOn_univ]; exact View.set_slice_subset m.view r)) $$ H
  iintro H
  iapply Hk
  rw [show put r w (m.view.read (Elt F) g) = m.view.read (Elt F) ((m.access r).write (Elt F) g w Finset.univ) from
    (eq_put (fun x => View.read_slice_write_emb r g w (Finset.mem_univ x)) (fun i hi => View.read_slice_write_of_not_mem r g w Finset.univ
      (fun h => hi (by obtain ⟨x, -, hx⟩ := Finset.mem_map.mp h; exact ⟨x, hx⟩)))).symm]
  iapply (owns_intro (c : Thread nD τ) m fullShare)
  iexact H

end Cert.KernelIdeal.Ex

end
-- ==== Proof.Sched.lean ====
/-
  The protocol. Every device has a barrier cell, to which each of its five partners pays one unit; with the unit the
  partner hands over the landing regions the device's copies to that partner will fill. Copy `j` has two cells on every
  device: its send cell, which the own copy fills when the rows have left and which gives the send buffer's rows back,
  and its recv cell, which the partner's copy fills and which gives the landing region back holding the partner's rows.
-/
module

public import proofs.«01_k».proof.Proof.Own

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The landing buffer. -/
abbrev stgM : Memref sig .tc .vmem S1984x768 .bf16 := Memref.whole cc0_scratch0
/-- The send buffer. -/
abbrev bufM : Memref sig .tc .vmem S2x256x768 .bf16 := Memref.whole cc0_scratch1
/-- The landing region of copy `j`. -/
abbrev landM (j : Fin 20) : Memref sig .tc .vmem (Rw (nrow j)) .bf16 := landRef stgM (fits j)
/-- The rows copy `j` leaves from. -/
abbrev sendM (j : Fin 20) : Memref sig .tc .vmem (Rw (nrow j)) .bf16 := sendRef bufM (fits j)

/-- The barrier semaphore. -/
abbrev barS : Sem sig := bar.sem
/-- The semaphore of copy `j`'s departure. -/
def sendSem (j : Fin 20) : DmaSem sig := ⟨6 + j.val, by have := j.isLt; show _ < 46; omega⟩
/-- The semaphore of copy `j`'s arrival. -/
def recvSem (j : Fin 20) : DmaSem sig := ⟨26 + j.val, by have := j.isLt; show _ < 46; omega⟩

/-- The send semaphore of a copy by number. -/
theorem semAt_send : ∀ j : Fin 20, semAt (fits j) cc0_scratch2 = sendSem j := by decide
/-- The receive semaphore of a copy by number. -/
theorem semAt_recv : ∀ j : Fin 20, semAt (fits j) cc0_scratch3 = recvSem j := by decide

/-- A device's barrier cell. -/
abbrev barCell (c : Dev nD) : GSem nD τ sig := ((c : Thread nD τ), .reg barS)
/-- A copy's send cell on a device. -/
abbrev sendCell (j : Fin 20) (c : Dev nD) : GSem nD τ sig := ((c : Thread nD τ), .dma (sendSem j))
/-- A copy's receive cell on a device. -/
abbrev recvCell (j : Fin 20) (c : Dev nD) : GSem nD τ sig := ((c : Thread nD τ), .dma (recvSem j))

/-- The credit of copy `j`. -/
def N (j : Fin 20) : ℕ := (landM j).view.dmaCredit
/-- A copy's credit is positive. -/
theorem N_pos (j : Fin 20) : 0 < N j := View.dmaCredit_pos _ (rw_pos j)
/-- The source of a copy has the copy's credit. -/
theorem sendM_credit (j : Fin 20) : (sendM j).view.dmaCredit = N j := rfl

variable (P : Dev nD → Res F)

/-- Device `c` owns the landing region of copy `j`, at whatever it holds. -/
def landAny (j : Fin 20) (c : Dev nD) : sProp 𝕄 :=
  iprop(∃ f : Buf (Elt F) ((landM j).view.loc (c : Thread nD τ)), (landM j).view.loc (c : Thread nD τ) ↦[(landM j).view.set]{fullShare} f)

/-- Paid to device `c`'s barrier cell by its partner of level `l`: the landing regions of the partner for the copies along that
    level, and that their recv cells stand at their first round. -/
def barPay (l : Fin 5) (c : Dev nD) : sProp 𝕄 :=
  bigSep (Finset.univ.filter fun j => lvl j = l) fun j => iprop(landAny j (pal l c) ∗ reached ER (recvCell j (pal l c)) 0)
/-- Paid to device `c`'s recv cell by its partner's copy: the landing region holding the partner's rows. -/
def recvPay (j : Fin 20) (c : Dev nD) : sProp 𝕄 := owns (c : Thread nD τ) (landM j) fullShare (landed P j c)
/-- Paid to device `c`'s send cell by its own copy: the rows of the send buffer back. -/
def sendPay (j : Fin 20) (c : Dev nD) : sProp 𝕄 :=
  iprop(∃ f : Buf (Elt F) ((sendM j).view.loc (c : Thread nD τ)), (sendM j).view.loc (c : Thread nD τ) ↦[(sendM j).view.set]{fullShare} f)

/-- The copy a semaphore of the exchange belongs to. -/
def jOf (s : DmaSem sig) : Fin 20 := ⟨(s.val + 14) % 20, Nat.mod_lt _ (by decide)⟩

/-- The copy of a send semaphore. -/
theorem jOf_send : ∀ j : Fin 20, jOf (sendSem j) = j := by decide
/-- The copy of a receive semaphore. -/
theorem jOf_recv : ∀ j : Fin 20, jOf (recvSem j) = j := by decide
/-- Send semaphores come first. -/
theorem send_lt (j : Fin 20) : (sendSem j).val < 26 := by have := j.isLt; show 6 + j.val < 26; omega
/-- Receive semaphores come after. -/
theorem recv_not_lt (j : Fin 20) : ¬ (recvSem j).val < 26 := by show ¬ (26 + j.val < 26); omega

/-- The duties on a semaphore. -/
def dutiesOf : SemLoc sig → Finset (Fin 5)
  | .reg s => if s = barS then Finset.univ else ∅
  | .dma s => if 6 ≤ s.val then {0} else ∅
/-- The amount of a duty on a semaphore. -/
def amountOf : SemLoc sig → ℕ
  | .reg _ => 1
  | .dma s => N (jOf s)
/-- What a duty on a semaphore of device `c` pays. -/
def payOf (c : Dev nD) (d : Fin 5) : SemLoc sig → sProp 𝕄
  | .reg _ => barPay d c
  | .dma s => if s.val < 26 then sendPay (jOf s) c else recvPay P (jOf s) c

/-- The schedule: one round. -/
def Rd : Rounds.Schedule (GSem nD τ sig) (Fin 5) 𝕄 where
  duties g r := if r = 0 ∧ g.1.2 = .tc then dutiesOf g.2 else ∅
  unitless _ := False
  amount g _ _ := amountOf g.2
  payload g _ d := payOf P g.1.1 d g.2
  amount_pos g _ _ _ := by
    rcases g with ⟨_, s | s⟩
    · exact Nat.one_pos
    · exact N_pos _

/-- What a raise hands over may be stored in a cell. -/
instance payload_storable (g : GSem nD τ sig) (r : ℕ) (d : Fin 5) : BI.Storable (upEmb : UEmb _ 𝕄) ((Rd P).payload g r d) := by
  show BI.Storable upEmb (payOf P g.1.1 d g.2)
  rcases g with ⟨t, s | s⟩
  · show BI.Storable upEmb (barPay d t.1)
    unfold barPay landAny
    infer_instance
  · show BI.Storable upEmb (if s.val < 26 then sendPay (jOf s) t.1 else recvPay P (jOf s) t.1)
    unfold sendPay recvPay
    split <;> infer_instance

section Facts

variable (c : Dev nD) (j : Fin 20)

/-- A barrier cell has five raises. -/
theorem duties_bar : (Rd P).duties (barCell c) 0 = Finset.univ := rfl
/-- A send cell has one raise. -/
theorem duties_send : (Rd P).duties (sendCell j c) 0 = {0} := by
  show (if 6 ≤ (sendSem j).val then ({0} : Finset (Fin 5)) else ∅) = _
  exact if_pos (Nat.le_add_right _ _)
/-- A receive cell has one raise. -/
theorem duties_recv : (Rd P).duties (recvCell j c) 0 = {0} := by
  show (if 6 ≤ (recvSem j).val then ({0} : Finset (Fin 5)) else ∅) = _
  exact if_pos (by show 6 ≤ 26 + j.val; omega)
/-- There is one round only. -/
theorem duties_later (g : GSem nD τ sig) : ∀ r, 1 ≤ r → (Rd P).duties g r = ∅ :=
  fun r hr => if_neg fun h => by omega

/-- A send cell is raised by the copy's credit. -/
theorem amount_send (d : Fin 5) : (Rd P).amount (sendCell j c) 0 d = N j := by show N (jOf (sendSem j)) = _; rw [jOf_send]
/-- A receive cell is raised by the copy's credit. -/
theorem amount_recv (d : Fin 5) : (Rd P).amount (recvCell j c) 0 d = N j := by show N (jOf (recvSem j)) = _; rw [jOf_recv]
/-- A barrier cell is raised by one. -/
theorem amount_bar (d : Fin 5) : (Rd P).amount (barCell c) 0 d = 1 := rfl

/-- A barrier cell expects five. -/
theorem expect_bar : (Rd P).expect (barCell c) 0 = 5 := by
  unfold Schedule.expect Schedule.amountOf
  rw [duties_bar, Finset.sum_congr rfl (fun d _ => amount_bar P c d)]
  rfl
/-- A send cell expects the copy's credit. -/
theorem expect_send : (Rd P).expect (sendCell j c) 0 = N j := by
  unfold Schedule.expect Schedule.amountOf
  rw [duties_send, Finset.sum_singleton, amount_send]
/-- A receive cell expects the copy's credit. -/
theorem expect_recv : (Rd P).expect (recvCell j c) 0 = N j := by
  unfold Schedule.expect Schedule.amountOf
  rw [duties_recv, Finset.sum_singleton, amount_recv]

/-- What a raise of the barrier hands over. -/
theorem payload_bar (d : Fin 5) : (Rd P).payload (barCell c) 0 d = barPay d c := rfl
/-- What the raise of a send cell hands over. -/
theorem payload_send (d : Fin 5) : (Rd P).payload (sendCell j c) 0 d = sendPay j c := by
  show (if (sendSem j).val < 26 then sendPay (jOf (sendSem j)) c else recvPay P (jOf (sendSem j)) c) = _
  rw [if_pos (send_lt j), jOf_send]
/-- What the raise of a receive cell hands over. -/
theorem payload_recv (d : Fin 5) : (Rd P).payload (recvCell j c) 0 d = recvPay P j c := by
  show (if (recvSem j).val < 26 then sendPay (jOf (recvSem j)) c else recvPay P (jOf (recvSem j)) c) = _
  rw [if_neg (recv_not_lt j), jOf_recv]

/-- All a barrier cell hands over. -/
theorem rest_bar : bigSep ((Rd P).duties (barCell c) 0 \ ∅) (fun d => (Rd P).payload (barCell c) 0 d) = bigSep Finset.univ fun l => barPay (F := F) l c := by
  rw [Finset.sdiff_empty, duties_bar]
  rfl
/-- All a send cell hands over. -/
theorem rest_send : bigSep ((Rd P).duties (sendCell j c) 0 \ ∅) (fun d => (Rd P).payload (sendCell j c) 0 d) = sendPay j c := by
  rw [Finset.sdiff_empty, duties_send, bigSep_singleton, payload_send]
/-- All a receive cell hands over. -/
theorem rest_recv : bigSep ((Rd P).duties (recvCell j c) 0 \ ∅) (fun d => (Rd P).payload (recvCell j c) 0 d) = recvPay P j c := by
  rw [Finset.sdiff_empty, duties_recv, bigSep_singleton, payload_recv]

end Facts

/-! ## What is owed, and the levels -/

/-- The credits device `c` still owes from copy `n` on. -/
def due (n : ℕ) (c : Dev nD) : CellTallies nD τ sig Unit :=
  ∑ j ∈ Finset.univ.filter (fun j : Fin 20 => n ≤ j.val), tallyAt (recvCell j (peer j c)) () (N j)
/-- The barrier units device `c` still owes from level `n` on. -/
def dueBar (n : ℕ) (c : Dev nD) : CellTallies nD τ sig Unit :=
  ∑ l ∈ Finset.univ.filter (fun l : Fin 5 => n ≤ l.val), tallyAt (barCell (pal l c)) () 1
/-- What device `c` owes at launch. -/
def O₀ (c : Dev nD) : CellTallies nD τ sig Unit := due 0 c + dueBar 0 c

/-- One copy's debt taken off the debts still to come. -/
theorem due_succ (j : Fin 20) (c : Dev nD) : due j.val c = due (j.val + 1) c + tallyAt (recvCell j (peer j c)) () (N j) := by
  unfold due
  rw [show (Finset.univ.filter fun k : Fin 20 => j.val ≤ k.val) = insert j (Finset.univ.filter fun k : Fin 20 => j.val + 1 ≤ k.val) from by
    ext k; simp only [Finset.mem_filter, Finset.mem_univ, true_and, Finset.mem_insert, Fin.ext_iff]; omega,
    Finset.sum_insert (by simp), add_comm]
/-- After the last copy nothing is owed. -/
theorem due_end (c : Dev nD) : due 20 c = 0 := by
  unfold due
  rw [show (Finset.univ.filter fun k : Fin 20 => 20 ≤ k.val) = ∅ from by decide, Finset.sum_empty]
/-- One ring's debt taken off the rings still to come. -/
theorem dueBar_succ (l : Fin 5) (c : Dev nD) : dueBar l.val c = dueBar (l.val + 1) c + tallyAt (barCell (pal l c)) () 1 := by
  unfold dueBar
  rw [show (Finset.univ.filter fun k : Fin 5 => l.val ≤ k.val) = insert l (Finset.univ.filter fun k : Fin 5 => l.val + 1 ≤ k.val) from by
    ext k; simp only [Finset.mem_filter, Finset.mem_univ, true_and, Finset.mem_insert, Fin.ext_iff]; omega,
    Finset.sum_insert (by simp), add_comm]
/-- After the last ring nothing is owed. -/
theorem dueBar_end (c : Dev nD) : dueBar 5 c = 0 := by
  unfold dueBar
  rw [show (Finset.univ.filter fun k : Fin 5 => 5 ≤ k.val) = ∅ from by decide, Finset.sum_empty]

/-- What is owed is owed to a cell it names. -/
theorem due_pos {n : ℕ} {c : Dev nD} {g : GSem nD τ sig} {u : Unit} (h : 0 < due n c g u) : ∃ j : Fin 20, n ≤ j.val ∧ g = recvCell j (peer j c) := by
  unfold due at h
  rw [Finset.sum_apply, Finsupp.finset_sum_apply] at h
  obtain ⟨j, hj, hp⟩ := Finset.exists_ne_zero_of_sum_ne_zero (Nat.pos_iff_ne_zero.mp h)
  refine ⟨j, (Finset.mem_filter.mp hj).2, ?_⟩
  rw [tallyAt_apply] at hp
  by_contra hg
  exact hp (if_neg fun h => hg h.1)
/-- What is owed at a barrier is owed to one of the partners. -/
theorem dueBar_pos {n : ℕ} {c : Dev nD} {g : GSem nD τ sig} {u : Unit} (h : 0 < dueBar n c g u) : ∃ l : Fin 5, g = barCell (pal l c) := by
  unfold dueBar at h
  rw [Finset.sum_apply, Finsupp.finset_sum_apply] at h
  obtain ⟨j, hj, hp⟩ := Finset.exists_ne_zero_of_sum_ne_zero (Nat.pos_iff_ne_zero.mp h)
  refine ⟨j, ?_⟩
  rw [tallyAt_apply] at hp
  by_contra hg
  exact hp (if_neg fun h => hg h.1)

/-- The labels of a cell: one on a TensorCore, none elsewhere. -/
def L (g : GSem nD τ sig) : Finset Unit := if g.1.2 = .tc then {()} else ∅
/-- The level of a semaphore: the barrier below all arrivals, the arrivals by their stage, the rest at the bottom. -/
def lvOf : SemLoc sig → ℕ
  | .reg _ => 1
  | .dma s => if s.val < 26 then 0 else 2 + (jOf s).val / 2
/-- The level of a cell. -/
def lv (g : GSem nD τ sig) (_ : Unit) : ℕ := lvOf g.2

/-- Off the TensorCore there is no label. -/
theorem L_of_ne (g : GSem nD τ sig) (h : g.1.2 ≠ .tc) : L g = ∅ := if_neg h
/-- On a TensorCore there is one label. -/
theorem L_tc (c : Dev nD) (sm : SemLoc sig) : L ((c : Thread nD τ), sm) = {()} := if_pos rfl
/-- Receive cells rise with the stage. -/
theorem lv_recv (j : Fin 20) (c : Dev nD) : lv (recvCell j c) () = 2 + j.val / 2 := by
  show (if (recvSem j).val < 26 then 0 else 2 + (jOf (recvSem j)).val / 2) = _
  rw [if_neg (recv_not_lt j), jOf_recv]
/-- Send cells are lowest. -/
theorem lv_send (j : Fin 20) (c : Dev nD) : lv (sendCell j c) () = 0 := if_pos (send_lt j)
/-- Barriers come next. -/
theorem lv_bar (c : Dev nD) : lv (barCell c) () = 1 := rfl

/-- A device may wait on a cell that lies below every arrival it still owes. -/
theorem mayWait (c : Dev nD) (sm : SemLoc sig) (n : ℕ) (h : ∀ j : Fin 20, n ≤ j.val → lv ((c : Thread nD τ), sm) () < 2 + j.val / 2) :
    (levAts L lv : sProp 𝕄) ⊢ MayWait (c : Thread nD τ) sm () (due n c) :=
  MayOwe.of_cut (L := L) (lev := lv) (lv ((c : Thread nD τ), sm) ())
    (fun p hp => by rw [Finset.mem_singleton.mp hp, L_tc]; exact Finset.mem_singleton_self _)
    (fun g u hg => by
      obtain ⟨j, -, rfl⟩ := due_pos hg
      rw [L_tc]; exact Finset.mem_singleton_self _)
    (fun p hp => by rw [Finset.mem_singleton.mp hp])
    (fun g u hg => by
      obtain ⟨j, hj, rfl⟩ := due_pos hg
      rw [lv_recv]; exact h j hj)

end Cert.KernelIdeal.Ex

end
-- ==== Proof.Steps.lean ====
/-
  One copy of the exchange: it is started, waited for, and worked in.
-/
module

public import proofs.«01_k».proof.Proof.Sched

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Res F) (K : GSem nD τ sig → ℕ)

/-! ## The send buffer's two parts -/

/-- Part `hf` of the send buffer. -/
abbrev partRect (hf : Fin 2) : Rect S2x256x768 :=
  Rect.unit (s := S2x256x768) ![hf.val, 0, 0] (Rw1 256).size (by revert hf; decide +kernel)
/-- The elements of part `hf`. -/
abbrev partSet (hf : Fin 2) : Finset (bufM.view.ty.Idx) := (bufM.view.slice (partRect hf)).set

/-- A copy has at most 256 rows. -/
theorem nrow_le : ∀ j : Fin 20, nrow j ≤ 256 := by decide

/-- A copy leaves from its half's part of the send buffer. -/
theorem send_sub_part : ∀ (t : Fin 10) (hf : Fin 2), (bufM.access (sendRect (fits (cp t hf)))).set ⊆ partSet hf := by
  intro t hf
  show (bufM.view.slice _).set ⊆ _
  rw [partSet, View.set_slice, View.set_slice]
  refine Finset.map_subset_map.mpr fun i hi => ?_
  rw [Rect.mem_set_unit] at hi ⊢
  have hn := nrow_le (cp t hf)
  have hh : half (cp t hf) = hf.val := cp_half t hf
  intro a
  have h := hi a
  match a, h with
  | 0, h => exact ⟨by simpa [hh] using h.1, by simpa [hh] using h.2⟩
  | 1, h => exact ⟨by simpa using h.1, by have := h.2; simp at this ⊢; omega⟩
  | 2, h => exact ⟨by simpa using h.1, by simpa using h.2⟩

/-- Device `c` owns part `hf` of its send buffer. -/
def partOwn (hf : Fin 2) (c : Dev nD) : sProp 𝕄 :=
  iprop(∃ g : Buf (Elt F) (bufM.view.loc (c : Thread nD τ)), bufM.view.loc (c : Thread nD τ) ↦[partSet hf]{fullShare} g)
/-- The same without the rows copy `j` leaves from. -/
def partRest (hf : Fin 2) (j : Fin 20) (c : Dev nD) : sProp 𝕄 :=
  iprop(∃ g : Buf (Elt F) (bufM.view.loc (c : Thread nD τ)), bufM.view.loc (c : Thread nD τ) ↦[partSet hf \ (sendM j).view.set]{fullShare} g)

/-- The elements of a copy's source. -/
theorem sendM_set (j : Fin 20) : (sendM j).view.set = (bufM.access (sendRect (fits j))).set := View.set_reshape _ _

/-- The rows put into the send buffer are what the copy reads there. -/
theorem read_carried (j : Fin 20) (g : bufM.view.ty.Contents (Elt F)) (u : FVec F (Rw (nrow j)) .bf16) :
    (sendM j).view.read (Elt F) ((bufM.access (sendRect (fits j))).write (Elt F) g (shapeCast (Rw1 (nrow j)) u (fits j).cast) Finset.univ) = u := by
  funext x
  have h := congrFun (View.read_write_univ (v := bufM.access (sendRect (fits j))) g (shapeCast (Rw1 (nrow j)) u (fits j).cast)) (Shape.reshapeEquiv (fits j).squeeze.numel_eq x)
  refine (show _ = (bufM.access (sendRect (fits j))).read (Elt F) _ (Shape.reshapeEquiv (fits j).squeeze.numel_eq x) from rfl).trans (h.trans ?_)
  unfold shapeCast
  rw [Shape.reshapeEquiv_reshapeEquiv, Shape.reshapeEquiv_self]

/-! ## What a device holds for copy `j` -/

/-- The invariants of the cells copy `j` of device `c` touches. -/
def inv3 (j : Fin 20) (c : Dev nD) : sProp 𝕄 :=
  iprop(cellInv ER (Rd P) (K (sendCell j c)) (sendCell j c) ∗ cellInv ER (Rd P) (K (recvCell j c)) (recvCell j c)
    ∗ cellInv ER (Rd P) (K (recvCell j (peer j c))) (recvCell j (peer j c)))

/-- The records of a copy may be kept and used again. -/
instance inv3_persistent (j : Fin 20) (c : Dev nD) : BI.Persistent (inv3 P K j c) := by unfold inv3; infer_instance

/-- Before the copy: the two duties' tokens, the partner's landing region, the positions and the credit of the arrival. -/
def todo (j : Fin 20) (c : Dev nD) : sProp 𝕄 :=
  iprop(inv3 P K j c ∗ dutyTok ER (sendCell j c) 0 0 ∗ dutyTok ER (recvCell j (peer j c)) 0 0 ∗ landAny j (peer j c)
    ∗ reached ER (recvCell j (peer j c)) 0 ∗ reached ER (sendCell j c) 0
    ∗ atPos ER (sendCell j c) 0 ∅ 0 ∗ atPos ER (recvCell j c) 0 ∅ 0 ∗ cred (tallyAt (recvCell j c) () (N j)))
/-- While the copy is under way. -/
def mid (j : Fin 20) (c : Dev nD) : sProp 𝕄 :=
  iprop(inv3 P K j c ∗ atPos ER (sendCell j c) 0 ∅ 0 ∗ atPos ER (recvCell j c) 0 ∅ 0 ∗ cred (tallyAt (recvCell j c) () (N j))
    ∗ cred (tallyAt (sendCell j c) () (N j)))
/-- After the copy. -/
def done (j : Fin 20) (c : Dev nD) : sProp 𝕄 :=
  iprop(inv3 P K j c ∗ atPos ER (sendCell j c) 1 ∅ 0 ∗ atPos ER (recvCell j c) 1 ∅ 0 ∗ landAny j c)

/-! ## The steps -/

/-- A load of a landing region that holds `y`. -/
theorem load_land (c : Dev nD) (j : Fin 20) (y : FVec F (Rw (nrow j)) .bf16) {hl : stgM.view.LoadsAt (landRect (fits j)).toLoadRect} {α : Type}
    {k : ((landRect (fits j)).shape.Idx → Elt F .bf16) → TProg F α} {Q : α → sProp 𝕄} :
    (owns (c : Thread nD τ) (landM j) fullShare y : sProp 𝕄)
      ⊢ iprop((landAny j c -∗ wpc c (k y) Q) -∗ wpc c (.op (.load stgM (landRect (fits j)).toLoadRect hl) k) Q) := by
  iintro H Hk
  ihave H' := (show owns (c : Thread nD τ) (landM j) fullShare y
    ⊢ iprop(∃ g, ⌜(landM j).view.read (Elt F) g = y⌝ ∗ (landM j).view.loc (c : Thread nD τ) ↦[(landM j).view.set]{fullShare} g) from .rfl) $$ H
  icases H' with ⟨%g, %hg, H⟩
  subst hg
  iapply (wp_load_rect 𝒱₀ (c : Thread nD τ) none Set.univ (m := stgM) (r := landRect (fits j)) (S := (landM j).view.set) (q := fullShare) (f := g) (subset_of_eq rfl)) $$ H
  iintro H
  iapply Hk
  unfold landAny
  iexists g
  iexact H

variable (out : Memref sig .tc .vmem S1024x768 .f32)

/-- The remote copy itself: the rows leave the send buffer for the partner's landing region, which will hold what the partner expects. -/
theorem copy_wp (c : Dev nD) (j : Fin 20) {sS sR : DmaSem sig} (hS : sS = sendSem j) (hR : sR = recvSem j)
    {hsc : (landM j : Memref sig (Dev.tc (peer j c) : Thread nD τ).2.kind .vmem (Rw (nrow j)) .bf16).view.ref.isScScratch = false}
    {hsrc : (sendM j).view.WordExact} {hdst : (landM j).view.WordExact}
    {hsem : DmaTarget.Typed .vmem (.dma sR) (.remote (Dev.tc (peer j c) : Thread nD τ) (landM j) (.dma sS) hsc)}
    {α : Type} {Q : α → sProp 𝕄} {k : PUnit → TProg F α}
    (fs : Buf (Elt F) ((sendM j).view.loc (c : Thread nD τ))) (hfs : (sendM j).view.read (Elt F) fs = landed P j (peer j c))
    (fd : Buf (Elt F) ((landM j).view.loc (peer j c : Thread nD τ))) (W : Waits sig Unit) :
    iprop(inv3 P K j c ∗ ((sendM j).view.loc (c : Thread nD τ) ↦[(sendM j).view.set]{fullShare} fs)
        ∗ ((landM j).view.loc (peer j c : Thread nD τ) ↦[(landM j).view.set]{fullShare} fd) ∗ owes (c : Thread nD τ) (due j.val c) W
        ∗ dutyTok ER (sendCell j c) 0 0 ∗ reached ER (sendCell j c) 0 ∗ dutyTok ER (recvCell j (peer j c)) 0 0 ∗ reached ER (recvCell j (peer j c)) 0)
      ⊢ iprop(((cred (tallyAt (sendCell j c) () (N j)) ∗ owes (c : Thread nD τ) (due (j.val + 1) c) W) -∗ wpc c (k ⟨⟩) Q)
          -∗ wpc c (.op (.enqueueDma (sendM j) (.remote (Dev.tc (peer j c) : Thread nD τ) (landM j) (.dma sS) hsc) (.dma sR) hsrc hdst hsem) k) Q) := by
  subst hS hR
  unfold inv3
  iintro ⟨⟨#HIs, -, #HIp⟩, Hs, Hd, HO, HtS, #HrS, HtP, #HrP⟩
  iapply (Rounds.wp_send_pointsTo 𝒱₀ ER (Rd P) (c : Thread nD τ) none (κ₁ := K (sendCell j c)) (κ₂ := K (recvCell j (peer j c)))
    (r₁ := 0) (r₂ := 0) (d₁ := 0) (d₂ := 0) (fs := fs) (fd := fd) (q := fullShare)
    (by rw [duties_send]; exact Finset.mem_singleton_self _) (by rw [duties_recv]; exact Finset.mem_singleton_self _)
    () () (N j) rfl (amount_send P c j 0) (amount_recv P (peer j c) j 0) (due (j.val + 1) c) (due_succ j c) (W := W)
    (by rw [payload_send]; unfold sendPay; iintro H; iexists fs; iexact H)
    (by
      rw [payload_recv, hfs]
      unfold recvPay
      have h : ((landM j).view.loc (peer j c : Thread nD τ) ↦[(landM j).view.set]{fullShare} ((landM j).view.write (Elt F) fd (landed P j (peer j c)) Finset.univ) : sProp 𝕄) ⊢ _ :=
        owns_intro (peer j c : Thread nD τ) (landM j) fullShare _
      rw [View.read_write_univ] at h
      exact h))
  isplitr; · iexact HIs
  isplitr; · iexact HIp
  isplitl [Hs]; · iexact Hs
  isplitl [Hd]; · iexact Hd
  isplitl [HO]; · iexact HO
  isplitl [HtS]; · iexact HtS
  isplitr; · iexact HrS
  isplitl [HtP]; · iexact HtP
  iexact HrP

set_option maxHeartbeats 800000 in
/-- Starting a copy whose rows are what the partner expects. -/
theorem send_wp (t : Fin 10) (hf : Fin 2) (c : Dev nD) (j : Fin 20) (hj : j = cp t hf) (X : Res F)
    (hX : rounded (nrow j) (fits j).same (giveOff j c) (give_inb j c) X = landed P j (peer j c)) (Q : PUnit → sProp 𝕄) :
    iprop((owns (c : Thread nD τ) out fullShare X ∗ partOwn hf c ∗ todo P K j c ∗ (∃ W, owes (c : Thread nD τ) (due j.val c) W))
        ∗ ((owns (c : Thread nD τ) out fullShare X ∗ partRest hf j c ∗ mid P K j c ∗ (∃ W, owes (c : Thread nD τ) (due (j.val + 1) c) W)) -∗ Q ⟨⟩))
      ⊢ wpc c (sendJ out stgM (Memref.isWhole_whole _) bufM (Memref.isWhole_whole _) cc0_scratch2 cc0_scratch3 j c) Q := by
  unfold sendJ sendP
  simp only [Prog.lift, Prog.bind_op, Prog.bind_ret, Prog.pure_eq_ret]
  unfold todo partOwn landAny
  iintro ⟨⟨Hout, ⟨%g, Hbuf⟩, ⟨#HI, HtS, HtP, ⟨%fd, Hland⟩, #HrP, #HrS, HatS, HatR, HcR⟩, ⟨%W, HO⟩⟩, Hk⟩
  have hsub : (bufM.access (sendRect (fits j))).set ⊆ partSet hf := by subst hj; exact send_sub_part t hf
  iapply (load_owns c out (rowsRect (nrow j) (giveOff j c) (give_inb j c)) fullShare X) $$ Hout
  iintro Hout
  iapply (wp_load_rect 𝒱₀ (c : Thread nD τ) none Set.univ (m := bufM) (r := sendRect (fits j)) (S := partSet hf) (q := fullShare) (f := g) hsub) $$ Hbuf
  iintro Hbuf
  iapply (wp_store 𝒱₀ (c : Thread nD τ) none Set.univ (m := bufM) (r := sendRect (fits j)) (Mk := Finset.univ) (S := partSet hf) (f := g)
    (by rw [View.setOn_univ]; exact hsub)) $$ Hbuf
  iintro Hbuf
  ihave Hb := (pointsTo_split_subset (I := (sendM j).view.set) (S := partSet hf) (by rw [sendM_set]; exact hsub)).1 $$ Hbuf
  icases Hb with ⟨Hs, Hrest⟩
  iapply (copy_wp P K c j (semAt_send j) (semAt_recv j) _ ((read_carried j g _).trans hX) fd W) $$ [HO HtS HtP Hs Hland]
  · isplitr; · iexact HI
    isplitl [Hs]; · iexact Hs
    isplitl [Hland]; · iexact Hland
    isplitl [HO]; · iexact HO
    isplitl [HtS]; · iexact HtS
    isplitr; · iexact HrS
    isplitl [HtP]; · iexact HtP
    iexact HrP
  iintro ⟨HcS, HO⟩
  iapply (ret_wpc c)
  iapply Hk
  unfold partRest mid
  isplitl [Hout]; · iexact Hout
  isplitl [Hrest]; · iexists _; iexact Hrest
  isplitr [HO]
  · isplitr; · iexact HI
    isplitl [HatS]; · iexact HatS
    isplitl [HatR]; · iexact HatR
    isplitl [HcR]; · iexact HcR
    iexact HcS
  · iexists W; iexact HO

/-- A wait for the one round of a cell. -/
theorem wait_cell (c : Dev nD) {s : DmaSem sig} (s' : DmaSem sig) (hs : s = s') (n : ℕ) (κ : ℕ) {s₁ s₂ : Shape} {src : Memref sig .tc .vmem s₁ .bf16} {dst : Memref sig .tc .vmem s₂ .bf16}
    {h₁ : src.view.WordExact} {h₂ : dst.view.WordExact} (hd : dst.view.dmaCredit = n) (he : (Rd P).expect ((c : Thread nD τ), .dma s') 0 = n)
    (O : CellTallies nD τ sig Unit) (W : Waits sig Unit) {α : Type} {k : PUnit → TProg F α} {Q : α → sProp 𝕄} :
    iprop(cellInv ER (Rd P) κ ((c : Thread nD τ), .dma s') ∗ cred (tallyAt ((c : Thread nD τ), .dma s') () n) ∗ owes (c : Thread nD τ) O W
        ∗ MayWait (c : Thread nD τ) (.dma s') () O ∗ atPos ER ((c : Thread nD τ), .dma s') 0 ∅ 0)
      ⊢ iprop(((owes (c : Thread nD τ) O (insert (SemLoc.dma s', ()) W) ∗ atPos ER ((c : Thread nD τ), .dma s') 1 ∅ 0
            ∗ bigSep ((Rd P).duties ((c : Thread nD τ), .dma s') 0 \ ∅) (fun d => (Rd P).payload ((c : Thread nD τ), .dma s') 0 d)) -∗ wpc c (k ⟨⟩) Q)
          -∗ wpc c (.op (.waitDma2 s src dst h₁ h₂) k) Q) := by
  subst hs hd
  iintro H Hk
  iapply (Rounds.wp_wait_rest_token 𝒱₀ ER (Rd P) (c : Thread nD τ) none (κ := κ)
      (wpE_waitDma2_eq 𝒱₀ (c : Thread nD τ) none Set.univ) (Set.mem_univ _) () (O := O) (W := W) (R := 0) (m := 0) (T := ∅)
      ((Nat.zero_add _).trans he.symm)) $$ H
  iintro ⟨HO, Hat, -, Hpay⟩
  iapply Hk
  isplitl [HO]; · iexact HO
  isplitl [Hat]; · iexact Hat
  iexact Hpay

set_option maxHeartbeats 2000000 in
/-- The two waits of a copy of stage `t`, when all of the stage's copies are under way. -/
theorem wait_wp (t : Fin 10) (hf : Fin 2) (c : Dev nD) (j : Fin 20) (hj : j = cp t hf) (n : ℕ) (hn : n = 2 * t.val + 2) (Q : PUnit → sProp 𝕄) :
    iprop((levAts L lv ∗ partRest hf j c ∗ mid P K j c ∗ (∃ W, owes (c : Thread nD τ) (due n c) W))
        ∗ ((partOwn hf c ∗ inv3 P K j c ∗ atPos ER (sendCell j c) 1 ∅ 0 ∗ atPos ER (recvCell j c) 1 ∅ 0
            ∗ owns (c : Thread nD τ) (landM j) fullShare (landed P j c) ∗ (∃ W, owes (c : Thread nD τ) (due n c) W)) -∗ Q ⟨⟩))
      ⊢ wpc c (waitP stgM (Memref.isWhole_whole _) bufM (Memref.isWhole_whole _) cc0_scratch2 cc0_scratch3 (fits j)) Q := by
  have hsub : (bufM.access (sendRect (fits j))).set ⊆ partSet hf := by subst hj; exact send_sub_part t hf
  have hjt : j.val / 2 = t.val := by subst hj; show (2 * t.val + hf.val) / 2 = t.val; omega
  unfold waitP
  simp only [Prog.lift, Prog.bind_op, Prog.bind_ret, Prog.pure_eq_ret]
  unfold mid partRest
  iintro ⟨⟨#Hlev, ⟨%g, Hrest⟩, ⟨#HI, HatS, HatR, HcR, HcS⟩, ⟨%W, HO⟩⟩, Hk⟩
  unfold inv3
  icases HI with ⟨#HIs, #HIr, #HIp⟩
  iapply (wait_cell P c (sendSem j) (semAt_send j) (N j) (K (sendCell j c)) (sendM_credit j) (expect_send P c j) (due n c) W) $$ [HcS HO HatS]
  · isplitr; · iexact HIs
    isplitl [HcS]; · iexact HcS
    isplitl [HO]; · iexact HO
    isplitr
    · iapply (mayWait c _ n (fun k hk => by rw [lv_send]; omega))
      iexact Hlev
    iexact HatS
  iintro ⟨HO, HatS, Hpay⟩
  ihave Hp := (Entails.of_eq (rest_send P c j)) $$ Hpay
  unfold sendPay
  icases Hp with ⟨%f, Hs⟩
  ihave Hb := (pointsTo_join_subset (ℓ := bufM.view.loc (c : Thread nD τ)) (I := (sendM j).view.set) (S := partSet hf) (by rw [sendM_set]; exact hsub)) $$ [Hs Hrest]
  · isplitl [Hs]; · iexact Hs
    iexact Hrest
  iapply (wait_cell P c (recvSem j) (semAt_recv j) (N j) (K (recvCell j c)) rfl (expect_recv P c j) (due n c)) $$ [HcR HO HatR]
  · isplitr; · iexact HIr
    isplitl [HcR]; · iexact HcR
    isplitl [HO]; · iexact HO
    isplitr
    · iapply (mayWait c _ n (fun k hk => by rw [lv_recv, hjt]; omega))
      iexact Hlev
    iexact HatR
  iintro ⟨HO, HatR, Hpay⟩
  ihave Hp := (Entails.of_eq (rest_recv P c j)) $$ Hpay
  iapply (ret_wpc c)
  iapply Hk
  unfold partOwn recvPay
  isplitl [Hb]; · iexists _; iexact Hb
  isplitr
  · isplitr; · iexact HIs
    isplitr; · iexact HIr
    iexact HIp
  isplitl [HatS]; · iexact HatS
  isplitl [HatR]; · iexact HatR
  isplitl [Hp]; · iexact Hp
  iexists _; iexact HO

/-- What arrived is worked into the result array. -/
theorem take_wp (c : Dev nD) (j : Fin 20) (Q : PUnit → sProp 𝕄) :
    iprop((owns (c : Thread nD τ) out fullShare (V P j.val c) ∗ owns (c : Thread nD τ) (landM j) fullShare (landed P j c))
        ∗ ((owns (c : Thread nD τ) out fullShare (V P (j.val + 1) c) ∗ landAny j c) -∗ Q ⟨⟩))
      ⊢ wpc c (takeJ out stgM j c) Q := by
  have hV : V P (j.val + 1) c = put (takeRect j c) (merged j c (V P j.val c) (landed P j c)) (V P j.val c) := V_succ P j c
  rw [hV]
  unfold takeJ
  iintro ⟨⟨Hout, Hland⟩, Hk⟩
  by_cases h : j.val < 10
  · rw [if_pos h, show merged j c (V P j.val c) (landed P j c) = addf (shapeCast (Rw (nrow j)) (rowsOf (nrow j) (takeOff j c) (take_inb j c) (V P j.val c)) (fits j).same)
      (extf .f32 (landed P j c) bitsLt_bf16_f32) from if_pos h]
    unfold addP
    simp only [Prog.lift, Prog.bind_op, Prog.bind_ret, Prog.pure_eq_ret]
    iapply (load_owns c out (takeRect j c) fullShare) $$ Hout
    iintro Hout
    iapply (load_land c j) $$ Hland
    iintro Hland
    iapply (load_owns c out (takeRect j c) fullShare) $$ Hout
    iintro Hout
    iapply (store_owns c out (takeRect j c)) $$ Hout
    iintro Hout
    iapply (ret_wpc c)
    iapply Hk
    isplitl [Hout]; · iexact Hout
    iexact Hland
  · rw [if_neg h, show merged j c (V P j.val c) (landed P j c) = extf .f32 (landed P j c) bitsLt_bf16_f32 from if_neg h]
    unfold setP
    simp only [Prog.lift, Prog.bind_op, Prog.bind_ret, Prog.pure_eq_ret]
    iapply (load_land c j) $$ Hland
    iintro Hland
    iapply (load_owns c out (takeRect j c) fullShare) $$ Hout
    iintro Hout
    iapply (store_owns c out (takeRect j c)) $$ Hout
    iintro Hout
    iapply (ret_wpc c)
    iapply Hk
    isplitl [Hout]; · iexact Hout
    iexact Hland

end Cert.KernelIdeal.Ex

end
-- ==== Proof.Bufs.lean ====
/-
  The two buffers of the exchange, whole and in pieces.
-/
module

public import proofs.«01_k».proof.Proof.Steps
public import Idealize.ShloMosaic.Lib.Ring

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The elements of the landing region of copy `j`. -/
theorem land_mem (j : Fin 20) (i : S1984x768.Idx) : i ∈ (landRect (fits j)).set ↔ land j ≤ (i 0).val ∧ (i 0).val < land j + nrow j := by
  rw [Rect.mem_set_unit]
  constructor
  · intro h
    exact h 0
  · intro h a
    match a with
    | 0 => exact h
    | 1 => exact ⟨Nat.zero_le _, by have := (i 1).isLt; show (i 1).val < 0 + 768; rw [Nat.zero_add]; exact this⟩
/-- The landing rows of two copies do not meet. -/
theorem land_apart : ∀ j j' : Fin 20, j ≠ j' → land j + nrow j ≤ land j' ∨ land j' + nrow j' ≤ land j := by decide +kernel
/-- Every row of the landing array belongs to some copy. -/
theorem land_all : ∀ r : Fin 1984, ∃ j : Fin 20, land j ≤ r.val ∧ r.val < land j + nrow j := by decide +kernel

/-- The same, as elements of the buffer. -/
abbrev landSet (j : Fin 20) : Finset (stgM.view.ty.Idx) := (landM j).view.set

/-- A copy's landing elements are those of its rectangle. -/
theorem landM_set (j : Fin 20) : landSet j = (landRect (fits j)).set := View.set_slice_whole _ _

/-- The landing elements of two copies are disjoint. -/
theorem landM_disjoint (j j' : Fin 20) (h : j ≠ j') : Disjoint (landSet j) (landSet j') := by
  rw [landM_set, landM_set, Finset.disjoint_left]
  intro i hi hi'
  rw [land_mem] at hi hi'
  have := land_apart j j' h
  omega
/-- The landing elements of all copies are the whole landing array. -/
theorem landM_cover : (Finset.univ : Finset (Fin 20)).biUnion landSet = Finset.univ := by
  ext i
  simp only [Finset.mem_biUnion, Finset.mem_univ, true_and, iff_true]
  obtain ⟨j, hj⟩ := land_all ⟨(i 0).val, (i 0).isLt⟩
  exact ⟨j, by rw [landM_set, land_mem]; exact hj⟩

/-- An element belongs to a part of the send buffer when its first coordinate is the part. -/
theorem part_mem (hf : Fin 2) (i : S2x256x768.Idx) : i ∈ (partRect hf).set ↔ (i 0).val = hf.val := by
  rw [Rect.mem_set_unit]
  constructor
  · intro h
    have h0 := h 0
    change hf.val ≤ (i 0).val ∧ (i 0).val < hf.val + 1 at h0
    omega
  · intro h a
    match a with
    | 0 => exact ⟨le_of_eq h.symm, by show (i 0).val < hf.val + 1; omega⟩
    | 1 => exact ⟨Nat.zero_le _, by have := (i 1).isLt; show (i 1).val < 0 + 256; rw [Nat.zero_add]; exact this⟩
    | 2 => exact ⟨Nat.zero_le _, by have := (i 2).isLt; show (i 2).val < 0 + 768; rw [Nat.zero_add]; exact this⟩
/-- The elements of a part are those of its rectangle. -/
theorem partSet_eq (hf : Fin 2) : partSet hf = (partRect hf).set := View.set_slice_whole _ _
/-- The two parts of the send buffer are disjoint. -/
theorem part_disjoint (h h' : Fin 2) (hn : h ≠ h') : Disjoint (partSet h) (partSet h') := by
  rw [partSet_eq, partSet_eq, Finset.disjoint_left]
  intro i hi hi'
  rw [part_mem] at hi hi'
  exact hn (Fin.ext (hi.symm.trans hi'))
/-- The two parts are the whole send buffer. -/
theorem part_cover : (Finset.univ : Finset (Fin 2)).biUnion partSet = Finset.univ := by
  ext i
  simp only [Finset.mem_biUnion, Finset.mem_univ, true_and, iff_true]
  exact ⟨⟨(i 0).val, (i 0).isLt⟩, by rw [partSet_eq, part_mem]⟩

variable (c : Dev nD)

/-- The landing buffer, whole, at whatever it holds. -/
def stgAny : sProp 𝕄 := iprop(∃ f : Buf (Elt F) ((c : Thread nD τ).loc cc0_scratch0), ((c : Thread nD τ).loc cc0_scratch0) ↦{fullShare} f)
/-- The send buffer, whole, at whatever it holds. -/
def bufAny : sProp 𝕄 := iprop(∃ f : Buf (Elt F) ((c : Thread nD τ).loc cc0_scratch1), ((c : Thread nD τ).loc cc0_scratch1) ↦{fullShare} f)

/-- The landing array falls apart into the landing rows of the copies. -/
theorem stg_split : stgAny (F := F) c ⊢ bigSep Finset.univ (fun j => landAny (F := F) j c) := by
  unfold stgAny
  iintro ⟨%f, H⟩
  ihave H := (Entails.of_eq (Ring.pointsTo_blocks (ℓ := (c : Thread nD τ).loc cc0_scratch0) landSet landM_disjoint landM_cover f)) $$ H
  have h1 (j : Fin 20) : (((c : Thread nD τ).loc cc0_scratch0) ↦[landSet j]{fullShare} f : sProp 𝕄) ⊢ landAny (F := F) j c := by
    unfold landAny
    iintro H
    iexists f
    iexact H
  have hm : bigSep Finset.univ (fun j : Fin 20 => (((c : Thread nD τ).loc cc0_scratch0) ↦[landSet j]{fullShare} f : sProp 𝕄))
      ⊢ bigSep Finset.univ (fun j : Fin 20 => landAny (F := F) j c) := bigSep_mono fun j _ => h1 j
  iapply hm
  iexact H
/-- The landing rows of all copies make up the landing array. -/
theorem stg_join : bigSep Finset.univ (fun j => landAny (F := F) j c) ⊢ stgAny (F := F) c :=
  Ring.pointsTo_blocks_join_exists (ℓ := (c : Thread nD τ).loc cc0_scratch0) landSet landM_disjoint landM_cover (fun _ => default)

/-- The send buffer falls apart into its two parts. -/
theorem buf_split : bufAny (F := F) c ⊢ iprop(partOwn (F := F) 0 c ∗ partOwn (F := F) 1 c) := by
  unfold bufAny
  iintro ⟨%f, H⟩
  have e : (((c : Thread nD τ).loc cc0_scratch1) ↦{fullShare} f : sProp 𝕄)
      = iprop((((c : Thread nD τ).loc cc0_scratch1) ↦[partSet 0]{fullShare} f) ∗ (((c : Thread nD τ).loc cc0_scratch1) ↦[partSet 1]{fullShare} f)) :=
    (Ring.pointsTo_blocks (ℓ := (c : Thread nD τ).loc cc0_scratch1) partSet part_disjoint part_cover f).trans (bigSep_fin_two _)
  ihave H := (Entails.of_eq e) $$ H
  icases H with ⟨H0, H1⟩
  unfold partOwn
  isplitl [H0]; · iexists f; iexact H0
  iexists f; iexact H1
/-- The two parts make up the send buffer. -/
theorem buf_join : iprop(partOwn (F := F) 0 c ∗ partOwn (F := F) 1 c) ⊢ bufAny (F := F) c :=
  (Entails.of_eq (bigSep_fin_two (fun h => partOwn (F := F) h c)).symm).trans
    (Ring.pointsTo_blocks_join_exists (ℓ := (c : Thread nD τ).loc cc0_scratch1) partSet part_disjoint part_cover (fun _ => default))

end Cert.KernelIdeal.Ex

end
-- ==== Proof.Stage.lean ====
/-
  A stage of the exchange, and the ten of them.
-/
module

public import proofs.«01_k».proof.Proof.Steps

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Res F) (K : GSem nD τ sig → ℕ) (out : Memref sig .tc .vmem S1024x768 .f32)

/-- What a device has of its arrays and still owes once the first `n` copies are worked in. -/
def core (n : ℕ) (c : Dev nD) : sProp 𝕄 :=
  iprop(owns (c : Thread nD τ) out fullShare (V P n c) ∗ partOwn 0 c ∗ partOwn 1 c ∗ ∃ W, owes (c : Thread nD τ) (due n c) W)
/-- Before and after the two copies of a stage. -/
def todo2 (t : Fin 10) (c : Dev nD) : sProp 𝕄 := iprop(todo P K (cp t 0) c ∗ todo P K (cp t 1) c)
/-- Both copies of a stage are through. -/
def done2 (t : Fin 10) (c : Dev nD) : sProp 𝕄 := iprop(done P K (cp t 0) c ∗ done P K (cp t 1) c)

/-- A stage works its two copies in. -/
theorem stage_wp (t : Fin 10) (c : Dev nD) (Q : PUnit → sProp 𝕄) :
    iprop((levAts L lv ∗ core P out (2 * t.val) c ∗ todo2 P K t c) ∗ ((core P out (2 * t.val + 2) c ∗ done2 P K t c) -∗ Q ⟨⟩))
      ⊢ wpc c (stage out stgM (Memref.isWhole_whole _) bufM (Memref.isWhole_whole _) cc0_scratch2 cc0_scratch3 t c) Q := by
  unfold stage core todo2 done2
  iintro ⟨⟨#Hlev, ⟨Hout, Hb0, Hb1, HO⟩, Ht0, Ht1⟩, Hk⟩
  iapply (seq_wpc c)
  iapply (send_wp P K out t 0 c (cp t 0) rfl (V P (cp t 0).val c) (sent_eq P t 0 c))
  isplitl [Hout Hb0 HO Ht0]
  · isplitl [Hout]; · iexact Hout
    isplitl [Hb0]; · iexact Hb0
    isplitl [Ht0]; · iexact Ht0
    iexact HO
  iintro ⟨Hout, Hb0, Ht0, HO⟩
  iapply (seq_wpc c)
  iapply (send_wp P K out t 1 c (cp t 1) rfl (V P (cp t 0).val c) (sent_eq P t 1 c))
  isplitl [Hout Hb1 HO Ht1]
  · isplitl [Hout]; · iexact Hout
    isplitl [Hb1]; · iexact Hb1
    isplitl [Ht1]; · iexact Ht1
    iexact HO
  iintro ⟨Hout, Hb1, Ht1, HO⟩
  iapply (seq_wpc c)
  iapply (wait_wp P K t 0 c (cp t 0) rfl (2 * t.val + 2) rfl)
  isplitl [Hb0 HO Ht0]
  · isplitr; · iexact Hlev
    isplitl [Hb0]; · iexact Hb0
    isplitl [Ht0]; · iexact Ht0
    iexact HO
  iintro ⟨Hb0, #HI0, HatS0, HatR0, Hland, HO⟩
  iapply (seq_wpc c)
  iapply (take_wp P out c (cp t 0))
  isplitl [Hout Hland]
  · isplitl [Hout]; · iexact Hout
    iexact Hland
  iintro ⟨Hout, Hl0⟩
  iapply (seq_wpc c)
  iapply (wait_wp P K t 1 c (cp t 1) rfl (2 * t.val + 2) rfl)
  isplitl [Hb1 HO Ht1]
  · isplitr; · iexact Hlev
    isplitl [Hb1]; · iexact Hb1
    isplitl [Ht1]; · iexact Ht1
    iexact HO
  iintro ⟨Hb1, #HI1, HatS1, HatR1, Hland, HO⟩
  iapply (take_wp P out c (cp t 1))
  isplitl [Hout Hland]
  · isplitl [Hout]; · iexact Hout
    iexact Hland
  iintro ⟨Hout, Hl1⟩
  iapply Hk
  isplitl [Hout Hb0 Hb1 HO]
  · isplitl [Hout]; · iexact Hout
    isplitl [Hb0]; · iexact Hb0
    isplitl [Hb1]; · iexact Hb1
    iexact HO
  unfold done
  isplitl [HatS0 HatR0 Hl0]
  · isplitr; · iexact HI0
    isplitl [HatS0]; · iexact HatS0
    isplitl [HatR0]; · iexact HatR0
    iexact Hl0
  · isplitr; · iexact HI1
    isplitl [HatS1]; · iexact HatS1
    isplitl [HatR1]; · iexact HatR1
    iexact Hl1

/-- What a device holds when the first `n` stages are over. -/
def St (n : ℕ) (c : Dev nD) : sProp 𝕄 :=
  iprop(core P out (2 * n) c ∗ bigSep (Finset.univ.filter fun t : Fin 10 => n ≤ t.val) (fun t => todo2 P K t c)
    ∗ bigSep (Finset.univ.filter fun t : Fin 10 => t.val < n) (fun t => done2 P K t c))

/-- The stages from `t` on are `t` and those after it. -/
theorem from_succ (t : Fin 10) : (Finset.univ.filter fun k : Fin 10 => t.val ≤ k.val) = insert t (Finset.univ.filter fun k : Fin 10 => t.val + 1 ≤ k.val) := by
  ext k; simp only [Finset.mem_filter, Finset.mem_univ, true_and, Finset.mem_insert, Fin.ext_iff]; omega
/-- The stages before `t + 1` are `t` and those before it. -/
theorem upto_succ (t : Fin 10) : (Finset.univ.filter fun k : Fin 10 => k.val < t.val + 1) = insert t (Finset.univ.filter fun k : Fin 10 => k.val < t.val) := by
  ext k; simp only [Finset.mem_filter, Finset.mem_univ, true_and, Finset.mem_insert, Fin.ext_iff]; omega

/-- A stage leads from one state to the next. -/
theorem stage_St (t : Fin 10) (c : Dev nD) (Q : PUnit → sProp 𝕄) :
    iprop(levAts L lv ∗ St P K out t.val c ∗ (St P K out (t.val + 1) c -∗ Q ⟨⟩))
      ⊢ wpc c (stage out stgM (Memref.isWhole_whole _) bufM (Memref.isWhole_whole _) cc0_scratch2 cc0_scratch3 t c) Q := by
  unfold St
  have e1 : bigSep (Finset.univ.filter fun k : Fin 10 => t.val ≤ k.val) (fun t => todo2 P K t c)
      = iprop(todo2 P K t c ∗ bigSep (Finset.univ.filter fun k : Fin 10 => t.val + 1 ≤ k.val) (fun t => todo2 P K t c)) := by
    rw [from_succ]; exact bigSep_insert (by simp)
  have e2 : bigSep (Finset.univ.filter fun k : Fin 10 => k.val < t.val + 1) (fun t => done2 P K t c)
      = iprop(done2 P K t c ∗ bigSep (Finset.univ.filter fun k : Fin 10 => k.val < t.val) (fun t => done2 P K t c)) := by
    rw [upto_succ]; exact bigSep_insert (by simp)
  rw [e1, e2]
  iintro ⟨#Hlev, ⟨Hc, ⟨Ht, Hts⟩, Hds⟩, Hk⟩
  iapply (stage_wp P K out t c)
  isplitl [Hc Ht]
  · isplitr; · iexact Hlev
    isplitl [Hc]; · iexact Hc
    iexact Ht
  iintro ⟨Hc, Hd⟩
  iapply Hk
  isplitl [Hc]; · iexact Hc
  isplitl [Hts]; · iexact Hts
  isplitl [Hd]; · iexact Hd
  iexact Hds

/-- The exchange leads from nothing copied to everything copied. -/
theorem exchange_wp (c : Dev nD) (Q : PUnit → sProp 𝕄) :
    iprop(levAts L lv ∗ St P K out 0 c ∗ (St P K out 10 c -∗ Q ⟨⟩))
      ⊢ wpc c (exchange out stgM (Memref.isWhole_whole _) bufM (Memref.isWhole_whole _) cc0_scratch2 cc0_scratch3 c) Q := by
  unfold exchange
  iintro ⟨#Hlev, HS, Hk⟩
  iapply (seq_wpc c); iapply (stage_St P K out 0 c); isplitr; · iexact Hlev
  isplitl [HS]; · iexact HS
  iintro HS
  iapply (seq_wpc c); iapply (stage_St P K out 1 c); isplitr; · iexact Hlev
  isplitl [HS]; · iexact HS
  iintro HS
  iapply (seq_wpc c); iapply (stage_St P K out 2 c); isplitr; · iexact Hlev
  isplitl [HS]; · iexact HS
  iintro HS
  iapply (seq_wpc c); iapply (stage_St P K out 3 c); isplitr; · iexact Hlev
  isplitl [HS]; · iexact HS
  iintro HS
  iapply (seq_wpc c); iapply (stage_St P K out 4 c); isplitr; · iexact Hlev
  isplitl [HS]; · iexact HS
  iintro HS
  iapply (seq_wpc c); iapply (stage_St P K out 5 c); isplitr; · iexact Hlev
  isplitl [HS]; · iexact HS
  iintro HS
  iapply (seq_wpc c); iapply (stage_St P K out 6 c); isplitr; · iexact Hlev
  isplitl [HS]; · iexact HS
  iintro HS
  iapply (seq_wpc c); iapply (stage_St P K out 7 c); isplitr; · iexact Hlev
  isplitl [HS]; · iexact HS
  iintro HS
  iapply (seq_wpc c); iapply (stage_St P K out 8 c); isplitr; · iexact Hlev
  isplitl [HS]; · iexact HS
  iintro HS
  iapply (stage_St P K out 9 c); isplitr; · iexact Hlev
  isplitl [HS]; · iexact HS
  iexact Hk

end Cert.KernelIdeal.Ex

end
-- ==== Proof.Meet.lean ====
/-
  The barrier: a device hands its landing regions to the partners that will write them, and takes theirs.
-/
module

public import proofs.«01_k».proof.Proof.Stage

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Res F) (K : GSem nD τ sig → ℕ)

/-- A family over the copies, gathered by their levels. -/
theorem by_level (Φ : Fin 5 → Fin 20 → sProp 𝕄) :
    bigSep Finset.univ (fun l : Fin 5 => bigSep (Finset.univ.filter fun j => lvl j = l) (Φ l)) = bigSep Finset.univ (fun j : Fin 20 => Φ (lvl j) j) := by
  have h1 : ∀ l ∈ (Finset.univ : Finset (Fin 5)), bigSep (Finset.univ.filter fun j => lvl j = l) (Φ l)
      = bigSep Finset.univ (fun j => if lvl j = l then Φ l j else BI.emp) := fun l _ => bigSep_filter _ _ _
  rw [bigSep_congr h1, bigSep_univ_comm]
  refine bigSep_congr fun j _ => ?_
  rw [← bigSep_filter Finset.univ (fun l => lvl j = l) (fun l => Φ l j),
    show (Finset.univ.filter fun l => lvl j = l) = {lvl j} from by ext l; simp [eq_comm], bigSep_singleton]

/-- What a device gives its partner for copy `j`: its landing region, and that its recv cell stands at its first round. -/
def give (j : Fin 20) (c : Dev nD) : sProp 𝕄 := iprop(landAny j c ∗ reached ER (recvCell j c) 0)

/-- A device's own gifts are the payments of its five signals. -/
theorem gifts_pay (c : Dev nD) : bigSep Finset.univ (fun j => give (F := F) j c) = bigSep Finset.univ (fun l => barPay (F := F) l (pal l c)) := by
  have h : ∀ l ∈ (Finset.univ : Finset (Fin 5)), barPay (F := F) l (pal l c) = bigSep (Finset.univ.filter fun j => lvl j = l) (fun j => give (F := F) j c) := by
    intro l _
    unfold barPay give
    rw [pal_pal]
  rw [bigSep_congr h, by_level (fun _ j => give j c)]
/-- What the five payments to a device hold: its partners' gifts. -/
theorem pay_gifts (c : Dev nD) : bigSep Finset.univ (fun l => barPay (F := F) l c) = bigSep Finset.univ (fun j => give (F := F) j (peer j c)) := by
  unfold barPay
  rw [by_level (fun l j => iprop(landAny j (pal l c) ∗ reached ER (recvCell j (pal l c)) 0))]
  refine bigSep_congr fun j _ => ?_
  rw [peer_pal]
  rfl

/-- What the signal to the partner of level `l` needs. -/
def sig1 (l : Fin 5) (c : Dev nD) : sProp 𝕄 :=
  iprop(cellInv ER (Rd P) (K (barCell (pal l c))) (barCell (pal l c)) ∗ dutyTok ER (barCell (pal l c)) 0 l ∗ reached ER (barCell (pal l c)) 0
    ∗ barPay l (pal l c))

/-- One signal. -/
theorem signal_wp (c : Dev nD) (l : Fin 5) {α : Type} {k : PUnit → TProg F α} {Q : α → sProp 𝕄} (n : ℤ) (hn : n = 1) :
    iprop(sig1 P K l c ∗ (∃ W, owes (c : Thread nD τ) (due 0 c + dueBar l.val c) W))
      ⊢ iprop(((∃ W, owes (c : Thread nD τ) (due 0 c + dueBar (l.val + 1) c) W) -∗ wpc c (k ⟨⟩) Q)
          -∗ wpc c (.op (.semSignal (Dev.tc (pal l c) : Thread nD τ) barS n) k) Q) := by
  subst hn
  unfold sig1
  have hO : due 0 c + dueBar l.val c = due 0 c + dueBar (l.val + 1) c + tallyAt (barCell (pal l c)) () 1 := by rw [dueBar_succ l c, add_assoc]
  iintro ⟨⟨#HI, Ht, Hr, Hp⟩, ⟨%W, HO⟩⟩ Hk
  iapply (Rounds.wp_signal 𝒱₀ ER (Rd P) (c : Thread nD τ) none (dst := (pal l c : Thread nD τ)) (κ := K (barCell (pal l c))) (r := 0)
      (d := l) (by rw [duties_bar]; exact Finset.mem_univ _) (amount_bar P (pal l c) l) () (due 0 c + dueBar (l.val + 1) c)
      hO) $$ [HO Ht Hr Hp]
  · isplitr; · iexact HI
    isplitl [HO]; · iexact HO
    isplitl [Ht]; · iexact Ht
    isplitl [Hp]; · rw [payload_bar]; iexact Hp
    iexact Hr
  iintro HO
  iapply Hk
  iexists W
  iexact HO

/-- The barrier exchanges the gifts. -/
theorem meet_wp (c : Dev nD) (Q : PUnit → sProp 𝕄) :
    iprop((levAts L lv ∗ cellInv ER (Rd P) (K (barCell c)) (barCell c) ∗ atPos ER (barCell c) 0 ∅ 0 ∗ cred (tallyAt (barCell c) () 5)
          ∗ bigSep Finset.univ (fun l => sig1 P K l c) ∗ ∃ W, owes (c : Thread nD τ) (O₀ c) W)
        ∗ ((atPos ER (barCell c) 1 ∅ 0 ∗ bigSep Finset.univ (fun j => give (F := F) j (peer j c)) ∗ ∃ W, owes (c : Thread nD τ) (due 0 c) W) -∗ Q ⟨⟩))
      ⊢ wpc c (meetP c) Q := by
  unfold meetP O₀
  simp only [semSignalWord, semWaitWord, Prog.lift, Prog.bind_op, Prog.bind_ret, Prog.pure_eq_ret]
  have e5 : bigSep Finset.univ (fun l => sig1 P K l c) = iprop(sig1 P K 0 c ∗ sig1 P K 1 c ∗ sig1 P K 2 c ∗ sig1 P K 3 c ∗ sig1 P K 4 c) := by
    rw [show (Finset.univ : Finset (Fin 5)) = {0, 1, 2, 3, 4} from by decide, bigSep_insert (by decide), bigSep_insert (by decide), bigSep_insert (by decide),
      bigSep_insert (by decide), bigSep_singleton]
    rfl
  rw [e5]
  iintro ⟨⟨#Hlev, #HI, Hat, Hcr, ⟨H0, H1, H2, H3, H4⟩, HO⟩, Hk⟩
  iapply (signal_wp P K c 0 _ (by decide)) $$ [H0 HO]
  · isplitl [H0]; · iexact H0
    iexact HO
  iintro HO
  iapply (signal_wp P K c 1 _ (by decide)) $$ [H1 HO]
  · isplitl [H1]; · iexact H1
    iexact HO
  iintro HO
  iapply (signal_wp P K c 2 _ (by decide)) $$ [H2 HO]
  · isplitl [H2]; · iexact H2
    iexact HO
  iintro HO
  iapply (signal_wp P K c 3 _ (by decide)) $$ [H3 HO]
  · isplitl [H3]; · iexact H3
    iexact HO
  iintro HO
  iapply (signal_wp P K c 4 _ (by decide)) $$ [H4 HO]
  · isplitl [H4]; · iexact H4
    iexact HO
  iintro ⟨%W, HO⟩
  have hO : due 0 c + dueBar ((4 : Fin 5).val + 1) c = due 0 c := by
    rw [show (4 : Fin 5).val + 1 = 5 from rfl, dueBar_end, add_zero]
  rw [hO]
  iapply (Rounds.wp_wait_rest_token 𝒱₀ ER (Rd P) (c : Thread nD τ) none (κ := K (barCell c))
      (wpE_semWait_eq 𝒱₀ (c : Thread nD τ) none Set.univ) (Set.mem_univ _) () (O := due 0 c) (W := W) (R := 0) (m := 0) (T := ∅)
      (by rw [expect_bar]; decide)) $$ [Hcr HO Hat]
  · isplitr; · iexact HI
    isplitl [Hcr]; · iexact Hcr
    isplitl [HO]; · iexact HO
    isplitr
    · iapply (mayWait c _ 0 (fun j _ => by rw [lv_bar]; omega))
      iexact Hlev
    iexact Hat
  iintro ⟨HO, Hat, -, Hpay⟩
  ihave Hp := (Entails.of_eq ((rest_bar P c).trans (pay_gifts c))) $$ Hpay
  iapply (ret_wpc c)
  iapply Hk
  isplitl [Hat]; · iexact Hat
  isplitl [Hp]; · iexact Hp
  iexists _; iexact HO

end Cert.KernelIdeal.Ex

end
-- ==== Proof.Batch.lean ====
/-
  One batch of the attention: its loads and the store of its rows.
-/
module

public import proofs.«01_k».proof.Proof.Own
public import Idealize.ShloMosaic.Lib.Pointwise.Index

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Memref sig .tc .vmem S1024x768 .f32) (wq : Memref sig .tc .vmem S768x512 .f32) (K V : Memref sig .tc .vmem S2x512x8x64 .bf16)
  (wo : Memref sig .tc .vmem S512x768 .f32) (out : Memref sig .tc .vmem S1024x768 .f32)

/-- The rows of a batch. -/
abbrev batchRect {r b : ℕ} (H : BlockFits r b) : Rect S1024x768 := Rect.unit (s := S1024x768) ![r, 0] S512x768.size H.rows
/-- The keys or values of a head of a batch. -/
abbrev headRect {r b : ℕ} (H : BlockFits r b) (i : Fin 8) : Rect S2x512x8x64 := Rect.unit (s := S2x512x8x64) ![b, 0, i.val, 0] S1x512x1x64.size (H.head i)
/-- The whole of the query weights. -/
abbrev wqRect : Rect S768x512 := Rect.unit (s := S768x512) ![0, 0] S768x512.size inb_S768x512_S768x512_0_0
/-- The whole of the output weights. -/
abbrev woRect : Rect S512x768 := Rect.unit (s := S512x768) ![0, 0] S512x768.size inb_S512x768_S512x768_0_0

/-- The keys or values of a head of a batch, out of all of them. -/
def headIn {r b : ℕ} (H : BlockFits r b) (i : Fin 8) (A : S2x512x8x64.Idx → Elt F .bf16) : Vec F S1x512x1x64 .bf16 := fun y => A ((headRect H i).emb y)

/-- What a batch puts into its rows. -/
def batchOut {r b : ℕ} (H : BlockFits r b) (X : Res F) (Wq : S768x512.Idx → Elt F .f32) (A B : S2x512x8x64.Idx → Elt F .bf16) (Wo : S512x768.Idx → Elt F .f32) :
    Vec F S512x768 .f32 :=
  blockOut (fun y => X ((batchRect H).emb y)) (fun y => Wq (wqRect.emb y))
    (headIn H 0 A) (headIn H 0 B) (headIn H 1 A) (headIn H 1 B) (headIn H 2 A) (headIn H 2 B) (headIn H 3 A) (headIn H 3 B) (headIn H 4 A) (headIn H 4 B) (headIn H 5 A) (headIn H 5 B) (headIn H 6 A) (headIn H 6 B) (headIn H 7 A) (headIn H 7 B)
    (fun y => Wo (woRect.emb y))

set_option maxHeartbeats 1600000 in
/-- A batch replaces its rows of the result array. -/
theorem batch_wp (c : Dev nD) {r b : ℕ} (H : BlockFits r b) (q1 q2 q3 q4 q5 : PosShare TreeShare) (X Y : Res F) (Wq : S768x512.Idx → Elt F .f32)
    (A B : S2x512x8x64.Idx → Elt F .bf16) (Wo : S512x768.Idx → Elt F .f32) (Q : PUnit → sProp 𝕄) :
    iprop((owns (c : Thread nD τ) x q1 X ∗ owns (c : Thread nD τ) wq q2 Wq ∗ owns (c : Thread nD τ) K q3 A ∗ owns (c : Thread nD τ) V q4 B
          ∗ owns (c : Thread nD τ) wo q5 Wo ∗ owns (c : Thread nD τ) out fullShare Y)
        ∗ ((owns (c : Thread nD τ) x q1 X ∗ owns (c : Thread nD τ) wq q2 Wq ∗ owns (c : Thread nD τ) K q3 A ∗ owns (c : Thread nD τ) V q4 B
          ∗ owns (c : Thread nD τ) wo q5 Wo ∗ owns (c : Thread nD τ) out fullShare (put (batchRect H) (batchOut H X Wq A B Wo) Y)) -∗ Q ⟨⟩))
      ⊢ wpc c (blockP x wq K V wo out H) Q := by
  unfold blockP
  simp only [Prog.lift, Prog.bind_op, Prog.bind_ret, Prog.pure_eq_ret]
  iintro ⟨⟨Hx, Hwq, HK, HV, Hwo, Hout⟩, Hk⟩
  iapply (load_owns c x (batchRect H) q1 X) $$ Hx
  iintro Hx
  iapply (load_owns c wq wqRect q2 Wq) $$ Hwq
  iintro Hwq
  iapply (load_owns c K (headRect H 0) q3 A) $$ HK
  iintro HK
  iapply (load_owns c V (headRect H 0) q4 B) $$ HV
  iintro HV
  iapply (load_owns c K (headRect H 1) q3 A) $$ HK
  iintro HK
  iapply (load_owns c V (headRect H 1) q4 B) $$ HV
  iintro HV
  iapply (load_owns c K (headRect H 2) q3 A) $$ HK
  iintro HK
  iapply (load_owns c V (headRect H 2) q4 B) $$ HV
  iintro HV
  iapply (load_owns c K (headRect H 3) q3 A) $$ HK
  iintro HK
  iapply (load_owns c V (headRect H 3) q4 B) $$ HV
  iintro HV
  iapply (load_owns c K (headRect H 4) q3 A) $$ HK
  iintro HK
  iapply (load_owns c V (headRect H 4) q4 B) $$ HV
  iintro HV
  iapply (load_owns c K (headRect H 5) q3 A) $$ HK
  iintro HK
  iapply (load_owns c V (headRect H 5) q4 B) $$ HV
  iintro HV
  iapply (load_owns c K (headRect H 6) q3 A) $$ HK
  iintro HK
  iapply (load_owns c V (headRect H 6) q4 B) $$ HV
  iintro HV
  iapply (load_owns c K (headRect H 7) q3 A) $$ HK
  iintro HK
  iapply (load_owns c V (headRect H 7) q4 B) $$ HV
  iintro HV
  iapply (load_owns c wo woRect q5 Wo) $$ Hwo
  iintro Hwo
  iapply (load_owns c out (batchRect H) fullShare Y) $$ Hout
  iintro Hout
  iapply (store_owns c out (batchRect H)) $$ Hout
  iintro Hout
  iapply (ret_wpc c)
  iapply Hk
  isplitl [Hx]; · iexact Hx
  isplitl [Hwq]; · iexact Hwq
  isplitl [HK]; · iexact HK
  isplitl [HV]; · iexact HV
  isplitl [Hwo]; · iexact Hwo
  iexact Hout

/-- What the two batches leave in the result array: the upper rows from the first, the lower from the second. -/
def partialOut (X : Res F) (Wq : S768x512.Idx → Elt F .f32) (A B : S2x512x8x64.Idx → Elt F .bf16) (Wo : S512x768.Idx → Elt F .f32) : Res F :=
  fun i => if h : (i 0).val < 512 then batchOut blockFits0 X Wq A B Wo (ix2 ⟨(i 0).val, h⟩ (i 1))
    else batchOut blockFits1 X Wq A B Wo (ix2 ⟨(i 0).val - 512, by have h : (i 0).val < 1024 := (i 0).isLt; omega⟩ (i 1))

/-- The row and the column of an element under a batch's rectangle. -/
theorem batch_val {r b : ℕ} (H : BlockFits r b) (y : S512x768.Idx) (a : Fin 2) : ((batchRect H).emb y a : ℕ) = (![r, 0] : Fin 2 → ℕ) a + (y a).val := by
  rw [Rect.emb_apply]
  show _ + 1 * (y a).val = _
  rw [Nat.one_mul]
  rfl

/-- Storing both batches leaves just that. -/
theorem put_batches (X Y : Res F) (Wq : S768x512.Idx → Elt F .f32) (A B : S2x512x8x64.Idx → Elt F .bf16) (Wo : S512x768.Idx → Elt F .f32) :
    put (batchRect blockFits1) (batchOut blockFits1 X Wq A B Wo) (put (batchRect blockFits0) (batchOut blockFits0 X Wq A B Wo) Y) = partialOut X Wq A B Wo := by
  symm
  refine eq_put (fun y => ?_) fun i hi => ?_
  · have h0 := batch_val blockFits1 y 0
    have hy : (y 0).val < 512 := (y 0).isLt
    change _ = 512 + _ at h0
    unfold partialOut
    rw [dif_neg (by omega)]
    congr 1
    funext a
    match a with
    | 0 => apply Fin.ext; show ((batchRect blockFits1).emb y 0).val - 512 = (y 0).val; omega
    | 1 => apply Fin.ext; show ((batchRect blockFits1).emb y 1).val = (y 1).val; rw [batch_val]; exact Nat.zero_add _
  · have hlt : (i 0).val < 512 := by
      by_contra hn
      have hl : (i 0).val < 1024 := (i 0).isLt
      refine hi ⟨ix2 ⟨(i 0).val - 512, by omega⟩ (i 1), ?_⟩
      funext a
      apply Fin.ext
      rw [batch_val]
      match a with
      | 0 => show 512 + ((i 0).val - 512) = _; omega
      | 1 => exact Nat.zero_add _
    have he : (batchRect blockFits0).emb (ix2 ⟨(i 0).val, hlt⟩ (i 1)) = i := by
      funext a
      apply Fin.ext
      rw [batch_val]
      match a with
      | 0 => exact Nat.zero_add _
      | 1 => exact Nat.zero_add _
    have hp := put_emb (batchRect blockFits0) (batchOut blockFits0 X Wq A B Wo) Y (ix2 ⟨(i 0).val, hlt⟩ (i 1))
    rw [he] at hp
    rw [hp]
    unfold partialOut
    rw [dif_pos hlt]

end Cert.KernelIdeal.Ex

end
-- ==== Proof.Body.lean ====
/-
  The whole kernel body of one device: the barrier, the two batches, the exchange, and the closing of every cell.
-/
module

public import proofs.«01_k».proof.Proof.Bufs
public import proofs.«01_k».proof.Proof.Meet
public import proofs.«01_k».proof.Proof.Batch
public import proofs.«01_k».proof.Proof.Stage
public import Idealize.ShloMosaic.Lib.Rounds.Family

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A property that follows by an update holds of a program that has returned. -/
theorem upd_wpc (c : Dev nD) {α : Type} {a : α} {Q : α → sProp 𝕄} : iprop(|={Set.univ}=> Q a) ⊢ wpc (F := F) c (.ret a) Q := by
  show iprop(|={Set.univ}=> Q a) ⊢ iprop(|={Set.univ}[frame]=> Q a)
  iintro H
  iexact H

variable (P : Dev nD → Res F) (K : GSem nD τ sig → ℕ)

/-- The copies, stage by stage. -/
def cpE : Fin 10 × Fin 2 ≃ Fin 20 where
  toFun p := cp p.1 p.2
  invFun j := (⟨j.val / 2, by omega⟩, ⟨j.val % 2, by omega⟩)
  left_inv p := Prod.ext (Fin.ext (by show (2 * p.1.val + p.2.val) / 2 = p.1.val; omega)) (Fin.ext (by show (2 * p.1.val + p.2.val) % 2 = p.2.val; omega))
  right_inv j := Fin.ext (by show 2 * (j.val / 2) + j.val % 2 = j.val; omega)

/-- All copies are the two copies of every stage. -/
theorem by_stage (Φ : Fin 20 → sProp 𝕄) : bigSep Finset.univ Φ = bigSep Finset.univ (fun t : Fin 10 => iprop(Φ (cp t 0) ∗ Φ (cp t 1))) := by
  rw [bigSep_univ_equiv cpE, bigSep_univ_prod]
  exact bigSep_congr fun t _ => bigSep_fin_two (fun h : Fin 2 => Φ (cp t h))

/-! ## What a device is dealt -/

/-- For copy `j`: its invariants, the tokens of the two duties its own copy performs, and its two cells at their start. -/
def opn (j : Fin 20) (c : Dev nD) : sProp 𝕄 :=
  iprop(inv3 P K j c ∗ dutyTok ER (sendCell j c) 0 0 ∗ dutyTok ER (recvCell j (peer j c)) 0 0
    ∗ (atPos ER (sendCell j c) 0 ∅ 0 ∗ reached ER (sendCell j c) 0) ∗ (atPos ER (recvCell j c) 0 ∅ 0 ∗ reached ER (recvCell j c) 0)
    ∗ cred (tallyAt (recvCell j c) () (N j)))
/-- For the partner of level `l`: its barrier cell's invariant, the token of the unit owed it. -/
def bell (l : Fin 5) (c : Dev nD) : sProp 𝕄 :=
  iprop(cellInv ER (Rd P) (K (barCell (pal l c))) (barCell (pal l c)) ∗ dutyTok ER (barCell (pal l c)) 0 l ∗ reached ER (barCell (pal l c)) 0)
/-- For the own barrier cell. -/
def gate (c : Dev nD) : sProp 𝕄 :=
  iprop(cellInv ER (Rd P) (K (barCell c)) (barCell c) ∗ atPos ER (barCell c) 0 ∅ 0 ∗ cred (tallyAt (barCell c) () 5))
/-- Both counters of copy `j` at zero. -/
def quiet (j : Fin 20) (c : Dev nD) : sProp 𝕄 := iprop(semVal (sendCell j c) 0 ∗ semVal (recvCell j c) 0)

/-- What is left of copy `j`'s share once the gift is made. -/
def kept (j : Fin 20) (c : Dev nD) : sProp 𝕄 :=
  iprop(inv3 P K j c ∗ dutyTok ER (sendCell j c) 0 0 ∗ dutyTok ER (recvCell j (peer j c)) 0 0
    ∗ (atPos ER (sendCell j c) 0 ∅ 0 ∗ reached ER (sendCell j c) 0) ∗ atPos ER (recvCell j c) 0 ∅ 0 ∗ cred (tallyAt (recvCell j c) () (N j)))

/-- A landing region and a share of copy `j` make the gift to the partner and what is kept. -/
theorem opn_give (j : Fin 20) (c : Dev nD) : iprop(landAny j c ∗ opn P K j c) ⊢ iprop(give (F := F) j c ∗ kept P K j c) := by
  unfold opn give kept
  iintro ⟨Hl, HI, Ht1, Ht2, Hs, ⟨Ha, Hr⟩, Hc⟩
  isplitl [Hl Hr]
  · isplitl [Hl]; · iexact Hl
    iexact Hr
  isplitl [HI]; · iexact HI
  isplitl [Ht1]; · iexact Ht1
  isplitl [Ht2]; · iexact Ht2
  isplitl [Hs]; · iexact Hs
  isplitl [Ha]; · iexact Ha
  iexact Hc

/-- The partner's gift and what was kept are all copy `j` needs. -/
theorem kept_todo (j : Fin 20) (c : Dev nD) : iprop(give (F := F) j (peer j c) ∗ kept P K j c) ⊢ todo P K j c := by
  unfold todo give kept
  iintro ⟨⟨Hl, Hr⟩, HI, Ht1, Ht2, ⟨Has, Hrs⟩, Ha, Hc⟩
  isplitl [HI]; · iexact HI
  isplitl [Ht1]; · iexact Ht1
  isplitl [Ht2]; · iexact Ht2
  isplitl [Hl]; · iexact Hl
  isplitl [Hr]; · iexact Hr
  isplitl [Hrs]; · iexact Hrs
  isplitl [Has]; · iexact Has
  isplitl [Ha]; · iexact Ha
  iexact Hc

/-- When copy `j` is done its two cells close, and the landing region is left. -/
theorem done_close (j : Fin 20) (c : Dev nD) : done P K j c ⊢ (|={Set.univ}=> iprop(quiet (F := F) j c ∗ landAny j c) : sProp 𝕄) := by
  unfold done inv3 quiet
  iintro ⟨⟨HI1, HI2, -⟩, Ha1, Ha2, Hl⟩
  imod (Rounds.cell_close ER (Rd P) (g := sendCell j c) (Set.mem_univ (K (sendCell j c))) id (duties_later P _)) $$ [HI1 Ha1] with H1
  · isplitl [HI1]; · iexact HI1
    iexact Ha1
  imod (Rounds.cell_close ER (Rd P) (g := recvCell j c) (Set.mem_univ (K (recvCell j c))) id (duties_later P _)) $$ [HI2 Ha2] with H2
  · isplitl [HI2]; · iexact HI2
    iexact Ha2
  imodintro
  isplitl [H1 H2]
  · isplitl [H1]; · iexact H1
    iexact H2
  iexact Hl

/-- Every copy's. -/
theorem all_close (c : Dev nD) : bigSep Finset.univ (fun j => done P K j c)
    ⊢ (|={Set.univ}=> iprop(bigSep Finset.univ (fun j => quiet (F := F) j c) ∗ stgAny (F := F) c) : sProp 𝕄) := by
  have h1 : bigSep Finset.univ (fun j => done P K j c) ⊢ (|={Set.univ}=> bigSep Finset.univ (fun j => iprop(quiet (F := F) j c ∗ landAny j c)) : sProp 𝕄) :=
    (bigSep_mono fun j _ => done_close P K j c).trans (bigSep_fupd _ _)
  have h2 : bigSep Finset.univ (fun j => iprop(quiet (F := F) j c ∗ landAny (F := F) j c))
      ⊢ iprop(bigSep Finset.univ (fun j => quiet (F := F) j c) ∗ bigSep Finset.univ (fun j => landAny (F := F) j c)) := Entails.of_eq (bigSep_sep' _ _ _)
  iintro H
  imod h1 $$ H with H
  imodintro
  ihave H := h2 $$ H
  icases H with ⟨H1, H2⟩
  isplitl [H1]; · iexact H1
  iapply (stg_join (F := F) c)
  iexact H2

/-- The landing buffer and the shares of all copies make all gifts, and what is kept. -/
theorem all_give (c : Dev nD) : iprop(stgAny (F := F) c ∗ bigSep Finset.univ (fun j => opn P K j c))
    ⊢ iprop(bigSep Finset.univ (fun l => barPay (F := F) l (pal l c)) ∗ bigSep Finset.univ (fun j => kept P K j c)) := by
  have h2 : iprop(bigSep Finset.univ (fun j => landAny (F := F) j c) ∗ bigSep Finset.univ (fun j => opn P K j c))
      ⊢ bigSep Finset.univ (fun j => iprop(give (F := F) j c ∗ kept P K j c)) :=
    (Entails.of_eq (bigSep_sep' _ _ _).symm).trans (bigSep_mono fun j _ => opn_give P K j c)
  have h3 : bigSep Finset.univ (fun j => iprop(give (F := F) j c ∗ kept P K j c))
      ⊢ iprop(bigSep Finset.univ (fun j => give (F := F) j c) ∗ bigSep Finset.univ (fun j => kept P K j c)) := Entails.of_eq (bigSep_sep' _ _ _)
  iintro ⟨Hs, Ho⟩
  ihave Hs := (stg_split (F := F) c) $$ Hs
  ihave H := h2 $$ [Hs Ho]
  · isplitl [Hs]; · iexact Hs
    iexact Ho
  ihave H := h3 $$ H
  icases H with ⟨H1, H2⟩
  isplitl [H1]
  · iapply (Entails.of_eq (gifts_pay (F := F) c))
    iexact H1
  iexact H2

/-- The unit to a partner, with the gift. -/
theorem bell_sig (l : Fin 5) (c : Dev nD) : iprop(bell P K l c ∗ barPay (F := F) l (pal l c)) ⊢ sig1 P K l c := by
  unfold bell sig1
  iintro ⟨⟨H1, H2, H3⟩, H4⟩
  isplitl [H1]; · iexact H1
  isplitl [H2]; · iexact H2
  isplitl [H3]; · iexact H3
  iexact H4

/-- All of them. -/
theorem all_sig (c : Dev nD) : iprop(bigSep Finset.univ (fun l => bell P K l c) ∗ bigSep Finset.univ (fun l => barPay (F := F) l (pal l c)))
    ⊢ bigSep Finset.univ (fun l => sig1 P K l c) :=
  (Entails.of_eq (bigSep_sep' _ _ _).symm).trans (bigSep_mono fun l _ => bell_sig P K l c)

/-- All copies may begin. -/
theorem all_todo (c : Dev nD) : iprop(bigSep Finset.univ (fun j => give (F := F) j (peer j c)) ∗ bigSep Finset.univ (fun j => kept P K j c))
    ⊢ bigSep Finset.univ (fun j => todo P K j c) :=
  (Entails.of_eq (bigSep_sep' _ _ _).symm).trans (bigSep_mono fun j _ => kept_todo P K j c)

variable (out : Memref sig .tc .vmem S1024x768 .f32)

/-- The state before the first copy. -/
theorem St_start (c : Dev nD) :
    iprop((owns (c : Thread nD τ) out fullShare (P c) ∗ bufAny (F := F) c ∗ ∃ W, owes (c : Thread nD τ) (due 0 c) W) ∗ bigSep Finset.univ (fun j => todo P K j c))
      ⊢ St P K out 0 c := by
  have e1 : bigSep Finset.univ (fun j => todo P K j c) = bigSep (Finset.univ.filter fun t : Fin 10 => 0 ≤ t.val) (fun t => todo2 P K t c) := by
    rw [Finset.filter_true_of_mem fun t _ => Nat.zero_le _]
    exact by_stage _
  have e2 : bigSep (Finset.univ.filter fun t : Fin 10 => t.val < 0) (fun t => done2 P K t c) = (BI.emp : sProp 𝕄) := by
    rw [Finset.filter_false_of_mem fun t _ => Nat.not_lt_zero _]
    exact BI.bigSep_empty
  unfold St core
  rw [e1, e2]
  iintro ⟨⟨Ho, Hb, HO⟩, Ht⟩
  ihave Hb := (buf_split (F := F) c) $$ Hb
  icases Hb with ⟨Hb0, Hb1⟩
  isplitr [Ht]
  · isplitl [Ho]; · iexact Ho
    isplitl [Hb0]; · iexact Hb0
    isplitl [Hb1]; · iexact Hb1
    iexact HO
  isplitl [Ht]; · iexact Ht
  iempintro

/-- The state after the last. -/
theorem St_end (c : Dev nD) :
    St P K out 10 c ⊢ iprop((owns (c : Thread nD τ) out fullShare (V P 20 c) ∗ bufAny (F := F) c
      ∗ ∃ W, owes (c : Thread nD τ) (0 : CellTallies nD τ sig Unit) W) ∗ bigSep Finset.univ (fun j => done P K j c)) := by
  have e1 : bigSep Finset.univ (fun j => done P K j c) = bigSep (Finset.univ.filter fun t : Fin 10 => t.val < 10) (fun t => done2 P K t c) := by
    rw [Finset.filter_true_of_mem fun t _ => t.isLt]
    exact by_stage _
  unfold St core
  rw [e1, due_end]
  iintro ⟨⟨Ho, Hb0, Hb1, HO⟩, -, Hd⟩
  isplitr [Hd]
  · isplitl [Ho]; · iexact Ho
    isplitl [Hb0 Hb1]
    · iapply (buf_join (F := F) c)
      isplitl [Hb0]; · iexact Hb0
      iexact Hb1
    iexact HO
  iexact Hd

variable (x : Memref sig .tc .vmem S1024x768 .f32) (hx : x.IsWhole) (wq : Memref sig .tc .vmem S768x512 .f32) (hwq : wq.IsWhole)
  (kb vb : Memref sig .tc .vmem S2x512x8x64 .bf16) (hkb : kb.IsWhole) (hvb : vb.IsWhole) (wo : Memref sig .tc .vmem S512x768 .f32) (hwo : wo.IsWhole) (hout : out.IsWhole)

/-- The five arrays a device reads. -/
def ins (c : Dev nD) (X : Res F) (Wq : S768x512.Idx → Elt F .f32) (A B : S2x512x8x64.Idx → Elt F .bf16) (Wo : S512x768.Idx → Elt F .f32) : sProp 𝕄 :=
  iprop(owns (c : Thread nD τ) x fullShare X ∗ owns (c : Thread nD τ) wq fullShare Wq ∗ owns (c : Thread nD τ) kb fullShare A
    ∗ owns (c : Thread nD τ) vb fullShare B ∗ owns (c : Thread nD τ) wo fullShare Wo)

/-- What a device begins with. -/
def before (c : Dev nD) : sProp 𝕄 :=
  iprop(levAts L lv ∗ (gate P K c ∗ bigSep Finset.univ (fun l => bell P K l c) ∗ bigSep Finset.univ (fun j => opn P K j c))
    ∗ stgAny (F := F) c ∗ bufAny (F := F) c ∗ ∃ W, owes (c : Thread nD τ) (O₀ c) W)
/-- What a device ends with beside its arrays. -/
def after (c : Dev nD) : sProp 𝕄 :=
  iprop(semVal (barCell c) 0 ∗ bigSep Finset.univ (fun j => quiet (F := F) j c) ∗ stgAny (F := F) c ∗ bufAny (F := F) c
    ∗ ∃ W, owes (c : Thread nD τ) (0 : CellTallies nD τ sig Unit) W)

set_option maxHeartbeats 1600000 in
/-- The body of device `c` leaves, in the result array, what the whole exchange makes of all devices' batches. -/
theorem body_wp (c : Dev nD) (X Y : Res F) (Wq : S768x512.Idx → Elt F .f32) (A B : S2x512x8x64.Idx → Elt F .bf16) (Wo : S512x768.Idx → Elt F .f32)
    (hP : P c = partialOut X Wq A B Wo) (Q : PUnit → sProp 𝕄) :
    iprop((before P K c ∗ ins x wq kb vb wo c X Wq A B Wo ∗ owns (c : Thread nD τ) out fullShare Y)
        ∗ ((after (F := F) c ∗ ins x wq kb vb wo c X Wq A B Wo ∗ owns (c : Thread nD τ) out fullShare (V P 20 c)) -∗ Q ⟨⟩))
      ⊢ wpc c (cc0_body_skel (F := F) x hx wq hwq kb hkb vb hvb wo hwo out hout stgM (Memref.isWhole_whole _) bufM (Memref.isWhole_whole _) cc0_scratch2 cc0_scratch3) Q := by
  rw [body_split]
  simp only [Prog.lift, Prog.bind_op, Prog.bind_ret]
  unfold wpc
  rw [wp_deviceId]
  rw [exchangeL_eq, show exchange (F := F) out stgM (Memref.isWhole_whole _) bufM (Memref.isWhole_whole _) cc0_scratch2 cc0_scratch3 c
    = (exchange out stgM (Memref.isWhole_whole _) bufM (Memref.isWhole_whole _) cc0_scratch2 cc0_scratch3 c >>= fun a => .ret a) from (bind_pure _).symm]
  unfold before gate ins
  iintro ⟨⟨⟨#Hlev, ⟨⟨#HIbar, Hat, Hcr⟩, Hbell, Hopn⟩, Hstg, Hbuf, HO⟩, ⟨Hx, Hwq, Hk, Hv, Hwo⟩, Hout⟩, HQ⟩
  ihave Hg := (all_give P K c) $$ [Hstg Hopn]
  · isplitl [Hstg]; · iexact Hstg
    iexact Hopn
  icases Hg with ⟨Hpay, Hkept⟩
  iapply (seq_wpc c)
  iapply (meet_wp P K c)
  isplitl [Hat Hcr Hbell Hpay HO]
  · isplitr; · iexact Hlev
    isplitr; · iexact HIbar
    isplitl [Hat]; · iexact Hat
    isplitl [Hcr]; · iexact Hcr
    isplitl [Hbell Hpay]
    · iapply (all_sig P K c)
      isplitl [Hbell]; · iexact Hbell
      iexact Hpay
    iexact HO
  iintro ⟨Hat, Hgifts, HO⟩
  ihave Htodo := (all_todo P K c) $$ [Hgifts Hkept]
  · isplitl [Hgifts]; · iexact Hgifts
    iexact Hkept
  iapply (seq_wpc c)
  iapply (batch_wp x wq kb vb wo out c blockFits0 fullShare fullShare fullShare fullShare fullShare X Y Wq A B Wo)
  isplitl [Hx Hwq Hk Hv Hwo Hout]
  · isplitl [Hx]; · iexact Hx
    isplitl [Hwq]; · iexact Hwq
    isplitl [Hk]; · iexact Hk
    isplitl [Hv]; · iexact Hv
    isplitl [Hwo]; · iexact Hwo
    iexact Hout
  iintro ⟨Hx, Hwq, Hk, Hv, Hwo, Hout⟩
  iapply (seq_wpc c)
  iapply (batch_wp x wq kb vb wo out c blockFits1 fullShare fullShare fullShare fullShare fullShare X _ Wq A B Wo)
  isplitl [Hx Hwq Hk Hv Hwo Hout]
  · isplitl [Hx]; · iexact Hx
    isplitl [Hwq]; · iexact Hwq
    isplitl [Hk]; · iexact Hk
    isplitl [Hv]; · iexact Hv
    isplitl [Hwo]; · iexact Hwo
    iexact Hout
  iintro ⟨Hx, Hwq, Hk, Hv, Hwo, Hout⟩
  have hw : (owns (c : Thread nD τ) out fullShare (put (batchRect blockFits1) (batchOut blockFits1 X Wq A B Wo) (put (batchRect blockFits0) (batchOut blockFits0 X Wq A B Wo) Y)) : sProp 𝕄)
      = owns (c : Thread nD τ) out fullShare (P c) := by rw [put_batches, hP]
  ihave Hout := (Entails.of_eq hw) $$ Hout
  iapply (seq_wpc c)
  iapply (exchange_wp P K out c)
  isplitr; · iexact Hlev
  isplitl [Hout Hbuf HO Htodo]
  · iapply (St_start P K out c)
    isplitr [Htodo]
    · isplitl [Hout]; · iexact Hout
      isplitl [Hbuf]; · iexact Hbuf
      iexact HO
    iexact Htodo
  iintro HS
  ihave HS := (St_end P K out c) $$ HS
  icases HS with ⟨⟨Hout, Hbuf, HO⟩, Hdone⟩
  iapply (upd_wpc c)
  imod (all_close P K c) $$ Hdone with ⟨Hq, Hstg⟩
  imod (Rounds.cell_close ER (Rd P) (g := barCell c) (Set.mem_univ (K (barCell c))) id (duties_later P _)) $$ [Hat] with Hb
  · isplitr; · iexact HIbar
    iexact Hat
  imodintro
  iapply HQ
  unfold after
  isplitl [Hb Hq Hstg Hbuf HO]
  · isplitl [Hb]; · iexact Hb
    isplitl [Hq]; · iexact Hq
    isplitl [Hstg]; · iexact Hstg
    isplitl [Hbuf]; · iexact Hbuf
    iexact HO
  isplitl [Hx Hwq Hk Hv Hwo]
  · isplitl [Hx]; · iexact Hx
    isplitl [Hwq]; · iexact Hwq
    isplitl [Hk]; · iexact Hk
    isplitl [Hv]; · iexact Hv
    iexact Hwo
  iexact Hout

end Cert.KernelIdeal.Ex

end
-- ==== Proof.Region.lean ====
/-
  The kernel call as a segment of the program: what the windows hold before and after it, the obligation of its body, and
  the record the launch takes.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit
public import Idealize.ShloMosaic.Harness.Basic

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ)

/-! ## The windows' contents -/

/-- The rows of `x` in device `c`'s window. -/
def inX (c : Dev nD) : Res F := (win0_0.blk t0_0).view.read (Elt F) (V1 m c main_v1)
/-- The device's columns of `Wq`. -/
def inWq (c : Dev nD) : S768x512.Idx → Elt F .f32 := (win0_1.blk t0_0).view.read (Elt F) (V1 m c main_arg1)
/-- The device's heads of `K`. -/
def inK (c : Dev nD) : S2x512x8x64.Idx → Elt F .bf16 := (win0_2.blk t0_0).view.read (Elt F) (V1 m c main_v11)
/-- The device's heads of `V`. -/
def inV (c : Dev nD) : S2x512x8x64.Idx → Elt F .bf16 := (win0_3.blk t0_0).view.read (Elt F) (V1 m c main_v17)
/-- The device's rows of `Wo`. -/
def inWo (c : Dev nD) : S512x768.Idx → Elt F .f32 := (win0_4.blk t0_0).view.read (Elt F) (V1 m c main_arg4)

/-- What device `c`'s own heads contribute. -/
def part (c : Dev nD) : Res F := partialOut (inX m c) (inWq m c) (inK m c) (inV m c) (inWo m c)
/-- What device `c` ends with. -/
@[irreducible] def total (c : Dev nD) : Res F := V (part m) 20 c
theorem total_eq (c : Dev nD) : total m c = V (part m) 20 c := by unfold total; rfl

/-! ## What rides into the kernel call -/

/-- Copy `j`'s share while its cells are not yet open. -/
def lin (K : GSem nD τ sig → ℕ) (j : Fin 20) (c : Dev nD) : sProp 𝕄 :=
  iprop(inv3 (part m) K j c ∗ dutyTok ER (sendCell j c) 0 0 ∗ dutyTok ER (recvCell j (peer j c)) 0 0
    ∗ (openTok ER (sendCell j c) ∗ openTok ER (recvCell j c)) ∗ cred (tallyAt (recvCell j c) () (N j)))
/-- All a device is dealt. -/
def Tk (c : Dev nD) : sProp 𝕄 :=
  iprop(∃ K, gate (part m) K c ∗ bigSep Finset.univ (fun l => bell (part m) K l c) ∗ bigSep Finset.univ (fun j => lin m K j c))
/-- The same once the cells are open. -/
def Xk (c : Dev nD) : sProp 𝕄 :=
  iprop((∃ K, gate (part m) K c ∗ bigSep Finset.univ (fun l => bell (part m) K l c) ∗ bigSep Finset.univ (fun j => opn (part m) K j c)) ∗ levAts L lv)
/-- What is kept of the kernel call: the barrier's counter at zero. -/
def Yk (c : Dev nD) : sProp 𝕄 := semVal (barCell c) 0

/-- The kernel's own semaphores. -/
def osem (k : Fin 20 × Fin 2) : SemLoc sig := .dma (if k.2 = 0 then sendSem k.1 else recvSem k.1)

/-- The semaphores of the copies are the kernel's own and none of the pipeline's. -/
theorem osem_facts : Pipeline.OwnSemFacts spec0 osem := by decide +kernel

/-- The kernel's own semaphores at zero, copy by copy. -/
theorem ownSems_eq (c : Dev nD) : (Pipeline.ownSems0 osem c : sProp 𝕄) = bigSep Finset.univ (fun j => quiet (F := F) j c) := by
  unfold Pipeline.ownSems0
  rw [bigSep_univ_prod]
  exact bigSep_congr fun j _ => bigSep_fin_two (fun k : Fin 2 => (semVal ((c : Thread nD τ), osem (j, k)) 0 : sProp 𝕄))

/-- The two cells of copy `j` open. -/
theorem lin_open (K : GSem nD τ sig → ℕ) (j : Fin 20) (c : Dev nD) : iprop(lin m K j c ∗ quiet (F := F) j c) ⊢ (|={Set.univ}=> opn (part m) K j c : sProp 𝕄) := by
  unfold lin opn quiet inv3
  iintro ⟨⟨⟨#HI1, #HI2, #HI3⟩, Ht1, Ht2, ⟨Ho1, Ho2⟩, Hc⟩, Hs, Hr⟩
  imod (Rounds.cell_open ER (Rd (part m)) (g := sendCell j c) (Set.mem_univ (K (sendCell j c)))) $$ [Ho1 Hs] with ⟨Ha1, Hr1⟩
  · isplitr; · iexact HI1
    isplitl [Ho1] <;> iassumption
  imod (Rounds.cell_open ER (Rd (part m)) (g := recvCell j c) (Set.mem_univ (K (recvCell j c)))) $$ [Ho2 Hr] with ⟨Ha2, Hr2⟩
  · isplitr; · iexact HI2
    isplitl [Ho2] <;> iassumption
  imodintro
  isplitr
  · isplitr; · iexact HI1
    isplitr; · iexact HI2
    iexact HI3
  isplitl [Ht1]; · iexact Ht1
  isplitl [Ht2]; · iexact Ht2
  isplitl [Ha1 Hr1]
  · isplitl [Ha1] <;> iassumption
  isplitl [Ha2 Hr2]
  · isplitl [Ha2] <;> iassumption
  iexact Hc

/-- The cells of all copies open. -/
theorem all_open (K : GSem nD τ sig → ℕ) (c : Dev nD) :
    iprop(bigSep Finset.univ (fun j => lin m K j c) ∗ bigSep Finset.univ (fun j => quiet (F := F) j c))
      ⊢ (|={Set.univ}=> bigSep Finset.univ (fun j => opn (part m) K j c) : sProp 𝕄) :=
  (Entails.of_eq (bigSep_sep' _ _ _).symm).trans ((bigSep_mono fun j _ => lin_open m K j c).trans (bigSep_fupd _ _))

/-- What rides in, with the kernel's semaphores at zero, opens all cells. -/
theorem hopen (c : Dev nD) : iprop(Tk m c ∗ Pipeline.ownSems0 osem c ∗ levAts L lv) ⊢ (|={Set.univ}=> Xk m c : sProp 𝕄) := by
  rw [ownSems_eq]
  unfold Tk Xk
  iintro ⟨⟨%K, Hg, Hb, Hl⟩, Hq, Hlev⟩
  imod (all_open m K c) $$ [Hl Hq] with Ho
  · isplitl [Hl] <;> iassumption
  imodintro
  isplitr [Hlev]
  · iexists K
    isplitl [Hg]; · iexact Hg
    isplitl [Hb]; · iexact Hb
    iexact Ho
  iexact Hlev

/-! ## The proof data -/

/-- Before the body, and after it. -/
def Φ₀ (c : Dev nD) : sProp 𝕄 := iprop(Xk m c ∗ stgAny (F := F) c ∗ bufAny (F := F) c ∗ ∃ r, prngReg c r)
/-- What holds after the body. -/
def Φ₁ (c : Dev nD) : sProp 𝕄 :=
  iprop(Yk (F := F) c ∗ bigSep Finset.univ (fun j => quiet (F := F) j c) ∗ stgAny (F := F) c ∗ bufAny (F := F) c ∗ ∃ r, prngReg c r)

/-- The contents of the windows, before and after the body. -/
def dats (_ : Fin 1) (c : Dev nD) : Dat τ (Elt F) Unit ℕ UU ℕ cfg0 c where
  A w := V1 m c (Proc.devRef .tc (Pipeline.arrRef spec0 w))
  after w _ := match w with
    | ⟨0, _⟩ => inX m c
    | ⟨1, _⟩ => inWq m c
    | ⟨2, _⟩ => inK m c
    | ⟨3, _⟩ => inV m c
    | ⟨4, _⟩ => inWo m c
    | ⟨5, _⟩ => total m c
    | ⟨_ + 6, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

/-- The first window holds the rows of `x` before the body. -/
theorem before_0 (c : Dev nD) (d) : (dats m 0 c).before (0 : Fin 6) t0_0 d = inX m c := by unfold Dat.before; rw [if_pos (fetch0_0 t0_0)]; rfl
/-- The second window holds the columns of `Wq`. -/
theorem before_1 (c : Dev nD) (d) : (dats m 0 c).before (1 : Fin 6) t0_0 d = inWq m c := by unfold Dat.before; rw [if_pos (fetch0_1 t0_0)]; rfl
/-- The third window holds the heads of `K`. -/
theorem before_2 (c : Dev nD) (d) : (dats m 0 c).before (2 : Fin 6) t0_0 d = inK m c := by unfold Dat.before; rw [if_pos (fetch0_2 t0_0)]; rfl
/-- The fourth window holds the heads of `V`. -/
theorem before_3 (c : Dev nD) (d) : (dats m 0 c).before (3 : Fin 6) t0_0 d = inV m c := by unfold Dat.before; rw [if_pos (fetch0_3 t0_0)]; rfl
/-- The fifth window holds the rows of `Wo`. -/
theorem before_4 (c : Dev nD) (d) : (dats m 0 c).before (4 : Fin 6) t0_0 d = inWo m c := by unfold Dat.before; rw [if_pos (fetch0_4 t0_0)]; rfl

/-! ## The body's obligation -/

/-- A device's debts, put back under the point's record. -/
theorem owes_close {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) :
    iprop(∃ W, owes (c : Thread nD τ) O W) ⊢ (dat.owesAt () t : sProp 𝕄) := by
  unfold Dat.owesAt Pipeline.owesWithin Dat.bound
  rw [h, hr]
  iintro ⟨%W, HO⟩
  iexists W
  isplitr
  · ipureintro; exact fun _ _ => Or.inl trivial
  iexact HO
/-- A device's debts, taken out of the point's record. -/
theorem owes_open {cfg : Pipeline.Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ iprop(∃ W, owes (c : Thread nD τ) O W) := by
  unfold Dat.owesAt Pipeline.owesWithin
  rw [h]
  iintro ⟨%W, -, HO⟩
  iexists W; iexact HO

/-- The arrays in the stages, before and after the point. -/
def stages (c : Dev nD) (Y : Res F) : sProp 𝕄 :=
  iprop(owns (c : Thread nD τ) (st0_0 t0_0) fullShare (inX m c) ∗ owns (c : Thread nD τ) (st0_1 t0_0) fullShare (inWq m c)
    ∗ owns (c : Thread nD τ) (st0_2 t0_0) fullShare (inK m c) ∗ owns (c : Thread nD τ) (st0_3 t0_0) fullShare (inV m c)
    ∗ owns (c : Thread nD τ) (st0_4 t0_0) fullShare (inWo m c) ∗ owns (c : Thread nD τ) (st0_5 t0_0) fullShare Y)

/-- The body on the stages, before what the pipeline keeps beside it. -/
theorem body_run (c : Dev nD) (Y : Res F) (Q : PUnit → sProp 𝕄) :
    iprop((Φ₀ m c ∗ (∃ W, owes (c : Thread nD τ) (O₀ c) W) ∗ stages m c Y)
        ∗ ((Φ₁ (F := F) c ∗ (∃ W, owes (c : Thread nD τ) (0 : CellTallies nD τ sig Unit) W) ∗ stages m c (total m c)) -∗ Q ⟨⟩))
      ⊢ wpc c (bodyAt0 (F := F) t0_0) Q := by
  rw [show bodyAt0 (F := F) t0_0 = cc0_body_skel (F := F) (st0_0 t0_0) (hstage0_0 0) (st0_1 t0_0) (hstage0_1 0) (st0_2 t0_0) (hstage0_2 0)
    (st0_3 t0_0) (hstage0_3 0) (st0_4 t0_0) (hstage0_4 0) (st0_5 t0_0) (hstage0_5 0) stgM (Memref.isWhole_whole _) bufM (Memref.isWhole_whole _) cc0_scratch2 cc0_scratch3
    from congrFun (congrFun (congrFun (congrFun (congrFun (congrFun (congrFun (congrFun (congrFun (congrFun (congrFun (congrFun (congrFun (congrFun (congrFun (congrFun (congrFun (congrFun cc0_body_eq_skeleton _) _) _) _) _) _) _) _) _) _) _) _) _) _) _) _) _) _]
  unfold Φ₀ Φ₁ Xk Yk stages
  rw [total_eq]
  iintro ⟨⟨⟨⟨⟨%K, Hg⟩, Hlev⟩, Hs, Hb, Hp⟩, HO, H0, H1, H2, H3, H4, H5⟩, HQ⟩
  iapply (body_wp (part m) K (st0_5 t0_0) (st0_0 t0_0) (hstage0_0 0) (st0_1 t0_0) (hstage0_1 0) (st0_2 t0_0) (st0_3 t0_0) (hstage0_2 0) (hstage0_3 0)
    (st0_4 t0_0) (hstage0_4 0) (hstage0_5 0) c (inX m c) Y (inWq m c) (inK m c) (inV m c) (inWo m c) rfl Q)
  isplitr [HQ Hp]
  · unfold before ins
    isplitl [Hlev Hg Hs Hb HO]
    · isplitl [Hlev]; · iexact Hlev
      isplitl [Hg]; · iexact Hg
      isplitl [Hs]; · iexact Hs
      isplitl [Hb]; · iexact Hb
      iexact HO
    isplitl [H0 H1 H2 H3 H4]
    · isplitl [H0]; · iexact H0
      isplitl [H1]; · iexact H1
      isplitl [H2]; · iexact H2
      isplitl [H3] <;> iassumption
    iexact H5
  unfold after ins
  iintro ⟨⟨Hb0, Hq, Hs, Hb, HO⟩, ⟨H0, H1, H2, H3, H4⟩, H5⟩
  iapply HQ
  isplitl [Hb0 Hq Hs Hb Hp]
  · isplitl [Hb0]; · iexact Hb0
    isplitl [Hq]; · iexact Hq
    isplitl [Hs]; · iexact Hs
    isplitl [Hb]; · iexact Hb
    iexact Hp
  isplitl [HO]; · iexact HO
  isplitl [H0]; · iexact H0
  isplitl [H1]; · iexact H1
  isplitl [H2]; · iexact H2
  isplitl [H3]; · iexact H3
  isplitl [H4]; · iexact H4
  iexact H5

/-- The program the pipeline runs at the point. -/
theorem body_at : defs₀ (F := F) Proc.tc cfg0.body (cfg0.bodyArgs t0_0 (cfg0.slots t0_0)) = bodyAt0 (F := F) t0_0 := rfl

/-- What holds before the body, by name. -/
theorem Φ_first (c : Dev nD) : (dats m 0 c).Φ t0_0.castSucc = Φ₀ m c := rfl
/-- What holds after the body, by name. -/
theorem Φ_last (c : Dev nD) : (dats m 0 c).Φ t0_0.succ = Φ₁ (F := F) c := rfl

/-- The result window holds the total after the body. -/
theorem after_5 (c : Dev nD) : (dats m 0 c).after (5 : Fin 6) t0_0 = total m c := rfl

/-- The obligation of the call's only point. -/
theorem hbody (c : Dev nD) : BodyObligation (dats m 0 c) (defs₀ (F := F)) 𝒱₀ () Set.univ := fun t => by
  rw [fin_N0 t]
  rw [bigSep_W0, bigSep_W0, body_at, Φ_first, Φ_last]
  iintro ⟨HΦ, HO, ⟨%d0, H0⟩, ⟨%d1, H1⟩, ⟨%d2, H2⟩, ⟨%d3, H3⟩, ⟨%d4, H4⟩, ⟨%d5, H5⟩⟩
  iapply (body_run m c ((dats m 0 c).before (5 : Fin 6) t0_0 d5) _)
  isplitl [HΦ HO H0 H1 H2 H3 H4 H5]
  · isplitl [HΦ]; · iexact HΦ
    isplitl [HO]; · iapply (owes_open (dats m 0 c) t0_0.castSucc (O₀ c) rfl); iexact HO
    unfold stages
    isplitl [H0]; · iapply (Entails.of_eq (congrArg _ (before_0 m c d0))) $$ H0
    isplitl [H1]; · iapply (Entails.of_eq (congrArg _ (before_1 m c d1))) $$ H1
    isplitl [H2]; · iapply (Entails.of_eq (congrArg _ (before_2 m c d2))) $$ H2
    isplitl [H3]; · iapply (Entails.of_eq (congrArg _ (before_3 m c d3))) $$ H3
    isplitl [H4]; · iapply (Entails.of_eq (congrArg _ (before_4 m c d4))) $$ H4
    iexact H5
  unfold stages
  iintro ⟨HΦ, HO, H0, H1, H2, H3, H4, H5⟩
  isplitl [HΦ]; · iexact HΦ
  isplitl [HO]; · iapply (owes_close (dats m 0 c) t0_0.succ 0 rfl rfl); iexact HO
  isplitl [H0]; · iexact H0
  isplitl [H1]; · iexact H1
  isplitl [H2]; · iexact H2
  isplitl [H3]; · iexact H3
  isplitl [H4]; · iexact H4
  iapply (Entails.of_eq (congrArg (owns (c : Thread nD τ) (st0_5 t0_0) fullShare) (after_5 m c).symm)) $$ H5

/-! ## The segment -/

/-- The contents the kernel call leaves. -/
def outs : Outs (F := F) := fun _ r c => Function.update (V1 m c) (Proc.devRef .tc main_v18) (total m c) (Proc.devRef .tc r)

/-- What is owed at a point has a label and lies above level zero. -/
theorem owed_cut (c : Dev nD) (t : Fin ((Pipeline.pin (pcfgs (F := F)) adm 0).N + 1)) (g : GSem nD τ sig) (i : Unit)
    (h : 0 < (dats m 0 c).owed t g i) : i ∈ L g ∧ (0 : ℕ) < lv g i := by
  have h' : 0 < O₀ c g i := by
    rcases t with ⟨n | n, hn⟩
    · exact h
    · exact absurd h (Nat.lt_irrefl 0)
  unfold O₀ at h'
  rw [Pi.add_apply, Finsupp.add_apply] at h'
  rcases Nat.add_pos_iff_pos_or_pos.mp h' with h' | h'
  · obtain ⟨j, -, rfl⟩ := due_pos h'
    exact ⟨by rw [L_tc]; exact Finset.mem_singleton_self _, by rw [lv_recv]; omega⟩
  · obtain ⟨l, rfl⟩ := dueBar_pos h'
    exact ⟨by rw [L_tc]; exact Finset.mem_singleton_self _, by rw [lv_bar]; omega⟩

/-- Every window's array holds before the call what the host left. -/
theorem W0 (c : Dev nD) (w : Fin 6) : (dats m 0 c).arrAt w 0 = V1 m c (Proc.devRef .tc (Pipeline.arrRef spec0 w)) := by
  fin_cases w <;> rfl

/-- After the call the result array holds the total. -/
theorem V2_out (c : Dev nD) : V2 m (outs m) c main_v18 = total m c := by
  unfold V2 outs
  rw [Function.update_self, Function.update_self]
/-- The call changes no other array. -/
theorem V2_in (c : Dev nD) (r : Ref sig .tc) (h : r ≠ main_v18) : V2 m (outs m) c r = V1 m c r :=
  V2_of m (outs m) c r (by simpa using h)

/-- Every window's array holds after the call what is claimed. -/
theorem W1 (c : Dev nD) (w : Fin 6) : (dats m 0 c).arrAt w cfg0.N = V2 m (outs m) c (Proc.devRef .tc (Pipeline.arrRef spec0 w)) := by
  fin_cases w
  · exact ((dats m 0 c).arrAt_in (0 : Fin 6) rfl _).trans (V2_in m c main_v1 (by decide)).symm
  · exact ((dats m 0 c).arrAt_in (1 : Fin 6) rfl _).trans (V2_in m c main_arg1 (by decide)).symm
  · exact ((dats m 0 c).arrAt_in (2 : Fin 6) rfl _).trans (V2_in m c main_v11 (by decide)).symm
  · exact ((dats m 0 c).arrAt_in (3 : Fin 6) rfl _).trans (V2_in m c main_v17 (by decide)).symm
  · exact ((dats m 0 c).arrAt_in (4 : Fin 6) rfl _).trans (V2_in m c main_arg4 (by decide)).symm
  · refine Eq.trans ?_ (V2_out m c).symm
    refine (dats m 0 c).arrAt_eq_of_after_last (5 : Fin 6) t0_0 (by decide +kernel) (total m c) (fun j => ?_)
    rw [after_5]
    exact congrArg (total m c) (funext fun a => Fin.ext rfl)

/-- Off its result the call changes nothing. -/
theorem rest_same (c : Dev nD) (b : DevRef τ sig) (hb : b ∈ (Pipeline.ucRefs τ sig \ Pipeline.arrRefs (τ := τ) spec0) \ ∅) : V2 m (outs m) c b = V1 m c b := by
  unfold V2
  refine Function.update_of_ne (fun h => ?_) _ _
  rw [Finset.sdiff_empty, h] at hb
  exact (Finset.mem_sdiff.mp hb).2 (by decide +kernel)

/-- The pipeline's own semaphores lie below everything a device owes. -/
theorem stage_low (c : Dev nD) (w : Fin 6) (s : Fin ((cfg0.win w).nbuf)) : lv ((c : Thread nD τ), .dma ((cfg0.win w).sem s)) () ≤ 0 := by
  have h : ∀ (w : Fin 6) (s : Fin ((cfg0.win w).nbuf)), ((cfg0.win w).sem s).val < 26 := by decide +kernel
  exact le_of_eq (if_pos (h w s))

/-- What the call is entered with gives what holds before the body. -/
theorem hin (c : Dev nD) : iprop(Pipeline.scopedRest spec0 c ∗ (∃ r, prngReg c r) ∗ StableHlo.held (c.tc : Thread nD τ) ∅ (V1 m c) ∗ Xk m c)
    ⊢ ((dats m 0 c).Φ 0 : sProp 𝕄) := by
  show _ ⊢ Φ₀ m c
  rw [scopedRest0_eq]
  unfold Φ₀ stgAny bufAny
  iintro ⟨⟨Hs, Hb⟩, Hp, -, HX⟩
  isplitl [HX]; · iexact HX
  isplitl [Hs]; · iexact Hs
  isplitl [Hb]; · iexact Hb
  iexact Hp

/-- What holds after the body gives what the call is left with. -/
theorem hout (c : Dev nD) : ((dats m 0 c).Φ (Fin.last cfg0.N) : sProp 𝕄)
    ⊢ iprop(Pipeline.scopedRest spec0 c ∗ (∃ r, prngReg c r) ∗ StableHlo.held (c.tc : Thread nD τ) ∅ (V2 m (outs m) c) ∗ Pipeline.ownSems0 osem c ∗ Yk c) := by
  show Φ₁ (F := F) c ⊢ _
  rw [scopedRest0_eq, ownSems_eq]
  unfold Φ₁ stgAny bufAny StableHlo.held
  rw [bigSep_empty]
  iintro ⟨HY, Hq, Hs, Hb, Hp⟩
  isplitl [Hs Hb]
  · isplitl [Hs] <;> iassumption
  isplitl [Hp]; · iexact Hp
  isplitr; · iempintro
  isplitl [Hq]; · iexact Hq
  iexact HY

set_option backward.isDefEq.respectTransparency.types false in
/-- The kernel call as a segment. -/
def reg0 : Pipeline.RegionSeg (pcfgs (F := F)) adm (dats m) () defs₀ 𝒱₀ L lv 0 :=
  Pipeline.RegionSeg.ofTalk (pcfgs (F := F)) adm (dats m) () defs₀ 𝒱₀ L lv 0 osem osem_facts
    ∅ (Pipeline.ucRefs τ sig \ Pipeline.arrRefs (τ := τ) spec0) (Finset.empty_subset _) (Pipeline.LaunchFacts.toP launch0) rfl (fun c => (hbody m c).loose)
    (fun _ => 0) O₀ (fun c => (zero_add _).symm) (fun _ => rfl) (fun _ => rfl) (fun c w => by fin_cases w <;> rfl)
    (V1 m) (V2 m (outs m)) (rest_same m)
    (Tk m) Yk (Xk m) Yk (hopen m) (hin m) (hout m) (fun c => by iintro H; imodintro; iexact H)
    (fun _ => 0) ⟨fun c w s => by rw [L_tc]; exact Finset.mem_singleton_self _, fun c w s => stage_low c w s, fun c t g i h => owed_cut m c t g i h⟩
    (fun _ => iprop(emp)) (W0 m) (W1 m)

end Cert.KernelIdeal.Ex

end
-- ==== Proof.Launch.lean ====
/-
  The launch: every cell's record is made at once, the barrier's from their counters, the copies' still closed; the rights
  and the credits are dealt to the devices.
-/
module

public import proofs.«01_k».proof.Proof.Region

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat)

variable (m : (ℓ : Loc nD τ sig) → Buf (Elt F) ℓ) (ρ : Dev nD → PrngReg)

/-! ## The cells and the rights -/

/-- The semaphores of the copies are distinct. -/
theorem osem_inj : Function.Injective osem := by decide +kernel
/-- No semaphore of a copy is the barrier's. -/
theorem osem_ne_bar : ∀ k : Fin 20 × Fin 2, osem k ≠ .reg barS := by decide +kernel

/-- The barrier cells of all devices, and the cells of the copies. -/
def barEmb : Dev nD ↪ GSem nD τ sig := ⟨fun c => barCell c, fun _ _ h => congrArg (fun g : GSem nD τ sig => g.1.1) h⟩
/-- The semaphores of all copies on all devices. -/
def cpEmb : Dev nD × (Fin 20 × Fin 2) ↪ GSem nD τ sig :=
  ⟨fun p => ((p.1 : Thread nD τ), osem p.2), fun _ _ h =>
    Prod.ext (congrArg (fun g : GSem nD τ sig => g.1.1) h) (osem_inj (congrArg Prod.snd h))⟩
/-- All barrier cells. -/
abbrev bars : Finset (GSem nD τ sig) := Finset.univ.map barEmb
/-- All copy cells. -/
abbrev cps : Finset (GSem nD τ sig) := Finset.univ.map cpEmb

/-- No barrier cell is a copy cell. -/
theorem bars_cps : Disjoint bars cps := by
  refine Finset.disjoint_left.mpr fun g h1 h2 => ?_
  obtain ⟨c, -, rfl⟩ := Finset.mem_map.mp h1
  obtain ⟨p, -, h⟩ := Finset.mem_map.mp h2
  exact osem_ne_bar p.2 (congrArg Prod.snd h)

/-- The duties of one device's cells: five on its barrier, one on each of its other cells. -/
abbrev DutyKey : Type := Fin 5 ⊕ (Fin 20 × Fin 2)
/-- The semaphore and the place among its raises that a right belongs to. -/
def dutyOf : DutyKey → SemLoc sig × Fin 5
  | .inl l => (.reg barS, l)
  | .inr k => (osem k, 0)
/-- Distinct rights belong to distinct raises. -/
theorem dutyOf_inj : Function.Injective dutyOf := by decide +kernel
/-- All rights to raise a semaphore, over all devices. -/
def rights : Finset (GSem nD τ sig × ℕ × Fin 5) :=
  Finset.univ.map ⟨fun p : Dev nD × DutyKey => (((p.1 : Thread nD τ), (dutyOf p.2).1), 0, (dutyOf p.2).2), fun _ _ h =>
    Prod.ext (congrArg (fun t : GSem nD τ sig × ℕ × Fin 5 => t.1.1.1) h)
      (dutyOf_inj (Prod.ext (congrArg (fun t : GSem nD τ sig × ℕ × Fin 5 => t.1.2) h) (congrArg (fun t : GSem nD τ sig × ℕ × Fin 5 => t.2.2) h)))⟩

/-- A barrier cell is among the cells. -/
theorem bar_mem (c : Dev nD) : barCell c ∈ (bars ∪ cps : Finset (GSem nD τ sig)) :=
  Finset.mem_union_left _ (Finset.mem_map_of_mem barEmb (Finset.mem_univ c))
/-- A copy's send cell is among the cells. -/
theorem send_mem (j : Fin 20) (c : Dev nD) : sendCell j c ∈ (bars ∪ cps : Finset (GSem nD τ sig)) :=
  Finset.mem_union_right _ (Finset.mem_map_of_mem cpEmb (Finset.mem_univ (c, j, (0 : Fin 2))))
/-- A copy's receive cell is among the cells. -/
theorem recv_mem (j : Fin 20) (c : Dev nD) : recvCell j c ∈ (bars ∪ cps : Finset (GSem nD τ sig)) :=
  Finset.mem_union_right _ (Finset.mem_map_of_mem cpEmb (Finset.mem_univ (c, j, (1 : Fin 2))))

/-! ## What every device may look up -/

/-- What is known of all cells for good. -/
def records (K : GSem nD τ sig → ℕ) : sProp 𝕄 :=
  iprop((bigSep (bars ∪ cps) fun g => cellInv ER (Rd (part m)) (K g) g) ∗ bigSep bars fun g => reached ER g 0)
/-- The records of all cells may be kept and used again. -/
instance records_persistent (K : GSem nD τ sig → ℕ) : BI.Persistent (records m K) := by unfold records; infer_instance

/-- The record of one cell, out of all. -/
theorem look_inv (K : GSem nD τ sig → ℕ) {g : GSem nD τ sig} (hg : g ∈ (bars ∪ cps : Finset (GSem nD τ sig))) :
    (bigSep (bars ∪ cps) fun g => (cellInv ER (Rd (part m)) (K g) g : sProp 𝕄)) ⊢ cellInv ER (Rd (part m)) (K g) g := bigSep_elim hg
/-- A barrier cell has reached its first round. -/
theorem look_reached (c : Dev nD) : (bigSep bars fun g => (reached ER g 0 : sProp 𝕄)) ⊢ reached ER (barCell c) 0 :=
  bigSep_elim (Finset.mem_map_of_mem barEmb (Finset.mem_univ c))

/-! ## What one device is dealt -/

/-- For copy `j`: the rights to open its cells, the rights of its two duties, the credit of its arrival. -/
def dealCopy (j : Fin 20) (c : Dev nD) : sProp 𝕄 :=
  iprop((openTok ER (sendCell j c) ∗ openTok ER (recvCell j c)) ∗ (dutyTok ER (sendCell j c) 0 0 ∗ dutyTok ER (recvCell j (peer j c)) 0 0)
    ∗ cred (tallyAt (recvCell j c) () (N j)))
/-- What one device is dealt at the launch. -/
def deal (c : Dev nD) : sProp 𝕄 :=
  iprop((atPos ER (barCell c) 0 ∅ 0 ∗ cred (tallyAt (barCell c) () 5)) ∗ bigSep Finset.univ (fun l : Fin 5 => dutyTok ER (barCell (pal l c)) 0 l)
    ∗ bigSep Finset.univ fun j => dealCopy (F := F) j c)

/-- The records and a right give a device what it rings one partner with. -/
theorem deal_bell (K : GSem nD τ sig → ℕ) (c : Dev nD) (l : Fin 5) :
    iprop(records m K ∗ dutyTok ER (barCell (pal l c)) 0 l) ⊢ (bell (part m) K l c : sProp 𝕄) := by
  unfold records bell
  iintro ⟨⟨#HI, #HR⟩, Ht⟩
  isplitr; · iapply (look_inv m K (bar_mem (pal l c))); iexact HI
  isplitl [Ht]; · iexact Ht
  iapply (look_reached (F := F) (pal l c)); iexact HR

/-- The records and a copy's rights give the copy's share. -/
theorem deal_lin (K : GSem nD τ sig → ℕ) (c : Dev nD) (j : Fin 20) : iprop(records m K ∗ dealCopy (F := F) j c) ⊢ (lin m K j c : sProp 𝕄) := by
  unfold records dealCopy lin inv3
  iintro ⟨⟨#HI, #HR⟩, Ho, ⟨Ht1, Ht2⟩, Hc⟩
  isplitr
  · isplitr; · iapply (look_inv m K (send_mem j c)); iexact HI
    isplitr; · iapply (look_inv m K (recv_mem j c)); iexact HI
    iapply (look_inv m K (recv_mem j (peer j c))); iexact HI
  isplitl [Ht1]; · iexact Ht1
  isplitl [Ht2]; · iexact Ht2
  isplitl [Ho] <;> iassumption

/-- The records give a device what it waits at the barrier with. -/
theorem deal_gate (K : GSem nD τ sig → ℕ) (c : Dev nD) :
    iprop(records m K ∗ (atPos ER (barCell c) 0 ∅ 0 ∗ cred (tallyAt (barCell c) () 5))) ⊢ (gate (part m) K c : sProp 𝕄) := by
  unfold records gate
  iintro ⟨⟨#HI, #HR⟩, Ha, Hc⟩
  isplitr; · iapply (look_inv m K (bar_mem c)); iexact HI
  isplitl [Ha] <;> iassumption

/-- The records and a device's deal give all it enters the kernel with. -/
theorem deal_Tk (K : GSem nD τ sig → ℕ) (c : Dev nD) : iprop(records m K ∗ deal (F := F) c) ⊢ (Tk m c : sProp 𝕄) := by
  unfold deal Tk
  iintro ⟨#HR, Hg, Hl, Hj⟩
  iexists K
  isplitl [Hg]
  · iapply (deal_gate m K c)
    isplitr; · iexact HR
    iexact Hg
  isplitl [Hl]
  · iapply (bigSep_with_persistent (R := records m K) (Φ := fun l : Fin 5 => (dutyTok ER (barCell (pal l c)) 0 l : sProp 𝕄)) fun l _ => deal_bell m K c l)
    isplitr; · iexact HR
    iexact Hl
  iapply (bigSep_with_persistent (R := records m K) (Φ := fun j => dealCopy (F := F) j c) fun j _ => deal_lin m K c j)
  isplitr; · iexact HR
  iexact Hj

/-! ## The rights, handed to the devices that use them -/

/-- The involutions along which devices are paired. -/
def palE (l : Fin 5) : Dev nD ≃ Dev nD := ⟨pal l, pal l, pal_pal l, pal_pal l⟩
/-- The partner of a copy, as a permutation of the devices. -/
def peerE (j : Fin 20) : Dev nD ≃ Dev nD := ⟨peer j, peer j, peer_peer j, peer_peer j⟩

/-- A family indexed by a device and a second index, each of its rows permuted. -/
theorem permute {B : Type} [Fintype B] (e : B → Dev nD ≃ Dev nD) (Φ : B → Dev nD → sProp 𝕄) :
    (bigSep Finset.univ fun c => bigSep Finset.univ fun b => Φ b c) = bigSep Finset.univ fun c => bigSep Finset.univ fun b => Φ b (e b c) := by
  rw [bigSep_univ_comm, bigSep_univ_comm (fun (c : Dev nD) b => Φ b (e b c))]
  exact bigSep_congr fun b _ => bigSep_univ_equiv (e b) (Φ b)

/-- All rights together are the devices' rights, each dealt to the device that uses it. -/
theorem rights_dealt : bigSep rights (fun t => (dutyTok ER t.1 t.2.1 t.2.2 : sProp 𝕄))
    = iprop((bigSep Finset.univ fun c : Dev nD => bigSep Finset.univ fun l : Fin 5 => dutyTok ER (barCell (pal l c)) 0 l)
      ∗ bigSep Finset.univ fun c : Dev nD => bigSep Finset.univ fun j : Fin 20 => iprop(dutyTok ER (sendCell j c) 0 0 ∗ dutyTok ER (recvCell j (peer j c)) 0 0)) := by
  have hk (c : Dev nD) : (bigSep Finset.univ fun k : DutyKey => (dutyTok ER ((c : Thread nD τ), (dutyOf k).1) 0 (dutyOf k).2 : sProp 𝕄))
      = iprop((bigSep Finset.univ fun l : Fin 5 => dutyTok ER (barCell c) 0 l)
        ∗ bigSep Finset.univ fun j : Fin 20 => iprop(dutyTok ER (sendCell j c) 0 0 ∗ dutyTok ER (recvCell j c) 0 0)) := by
    rw [bigSep_univ_sum]
    refine congrArg₂ _ rfl ?_
    rw [bigSep_univ_prod]
    exact bigSep_congr fun j _ => bigSep_fin_two (fun k : Fin 2 => (dutyTok ER ((c : Thread nD τ), osem (j, k)) 0 0 : sProp 𝕄))
  have hj : (bigSep Finset.univ fun c : Dev nD => bigSep Finset.univ fun j : Fin 20 => (iprop(dutyTok ER (sendCell j c) 0 0 ∗ dutyTok ER (recvCell j c) 0 0) : sProp 𝕄))
      = bigSep Finset.univ fun c : Dev nD => bigSep Finset.univ fun j : Fin 20 => iprop(dutyTok ER (sendCell j c) 0 0 ∗ dutyTok ER (recvCell j (peer j c)) 0 0) := by
    simp only [bigSep_sep']
    rw [permute peerE (fun j c => (dutyTok ER (recvCell j c) 0 0 : sProp 𝕄))]
    rfl
  unfold rights
  rw [bigSep_map, bigSep_univ_prod]
  refine (bigSep_congr fun c _ => hk c).trans ?_
  rw [bigSep_sep', permute palE (fun l c => (dutyTok ER (barCell c) 0 l : sProp 𝕄)), hj]
  rfl

/-! ## The credits -/

/-- The devices together owe a barrier cell five raises. -/
theorem owed_bar (c : Dev nD) : ∑ d, O₀ d (barCell c) () = 5 := by
  have h (d : Dev nD) : O₀ d (barCell c) () = ∑ l : Fin 5, if d = pal l c then 1 else 0 := by
    unfold O₀
    rw [Pi.add_apply, Finsupp.add_apply, show due 0 d (barCell c) () = 0 from Nat.eq_zero_of_not_pos fun h => by
      obtain ⟨j, -, hj⟩ := due_pos h
      exact absurd (congrArg Prod.snd hj) (by simp), Nat.zero_add]
    unfold dueBar
    rw [Finset.sum_apply, Finsupp.finset_sum_apply, Finset.filter_true_of_mem fun l _ => Nat.zero_le _]
    refine Finset.sum_congr rfl fun l _ => ?_
    rw [tallyAt_apply]
    refine if_congr ⟨fun h => ?_, fun h => ⟨?_, rfl⟩⟩ rfl rfl
    · rw [show c = pal l d from congrArg (fun g : GSem nD τ sig => g.1.1) h.1, pal_pal]
    · rw [h, pal_pal]
  rw [Finset.sum_congr rfl fun d _ => h d, Finset.sum_comm]
  simp only [Finset.sum_ite_eq', Finset.mem_univ, if_true, Finset.sum_const, Finset.card_univ, Fintype.card_fin]
  rfl

/-- The receive semaphores of the copies are distinct. -/
theorem recvSem_inj : ∀ j j' : Fin 20, recvSem j = recvSem j' → j = j' := by decide +kernel

/-- The devices together owe a receive cell the copy's credit. -/
theorem owed_recv (j : Fin 20) (c : Dev nD) : ∑ d, O₀ d (recvCell j c) () = N j := by
  have h (d : Dev nD) : O₀ d (recvCell j c) () = if d = peer j c then N j else 0 := by
    unfold O₀
    rw [Pi.add_apply, Finsupp.add_apply, show dueBar 0 d (recvCell j c) () = 0 from Nat.eq_zero_of_not_pos fun h => by
      obtain ⟨l, hl⟩ := dueBar_pos h
      exact absurd (congrArg Prod.snd hl) (by simp), Nat.add_zero]
    unfold due
    rw [Finset.sum_apply, Finsupp.finset_sum_apply, Finset.filter_true_of_mem fun l _ => Nat.zero_le _,
      Finset.sum_eq_single j (fun i _ hi => by
        rw [tallyAt_apply]
        exact if_neg fun h => hi (recvSem_inj _ _ (SemLoc.dma.inj (congrArg Prod.snd h.1))).symm) (fun h => absurd (Finset.mem_univ j) h), tallyAt_apply]
    refine if_congr ⟨fun h => ?_, fun h => ⟨?_, rfl⟩⟩ rfl rfl
    · rw [show c = peer j d from congrArg (fun g : GSem nD τ sig => g.1.1) h.1, peer_peer]
    · rw [h, peer_peer]
  rw [Finset.sum_congr rfl fun d _ => h d, Finset.sum_ite_eq' Finset.univ (peer j c) fun _ => N j, if_pos (Finset.mem_univ _)]

/-- The credit of one cell at the launch. -/
theorem launch_at (g : GSem nD τ sig) (n : ℕ) (h : ∑ d, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The receive semaphores of a device. -/
def recvEmb : Fin 20 ↪ SemLoc sig := ⟨fun j => .dma (recvSem j), fun _ _ h => recvSem_inj _ _ (SemLoc.dma.inj h)⟩

/-- The credit a device starts with: five at its barrier, and every copy's at its receive semaphore. -/
theorem creds (c : Dev nD) : (Pipeline.launchCred O₀ c : sProp 𝕄)
    ⊢ iprop(cred (tallyAt (barCell c) () 5) ∗ bigSep Finset.univ fun j : Fin 20 => cred (tallyAt (recvCell j c) () (N j))) := by
  unfold Pipeline.launchCred
  rw [bigSep_univ_at _ (SemLoc.reg barS), launch_at (barCell c) 5 (owed_bar c)]
  refine sep_mono_right ?_
  have e : (bigSep (Finset.univ.map recvEmb) fun sm => (cred (tallyOn ((c : Thread nD τ), sm) (launchCredit (Pipeline.owing O₀) 0 ((c : Thread nD τ), sm))) : sProp 𝕄))
      = bigSep Finset.univ fun j : Fin 20 => cred (tallyAt (recvCell j c) () (N j)) := by
    rw [bigSep_map]
    exact bigSep_congr fun j _ => congrArg _ (launch_at (recvCell j c) (N j) (owed_recv j c))
  rw [← e]
  refine bigSep_subset fun x hx => ?_
  obtain ⟨j, -, rfl⟩ := Finset.mem_map.mp hx
  exact Finset.mem_erase.mpr ⟨by simp [recvEmb], Finset.mem_univ _⟩

end Cert.KernelIdeal.Ex

end
-- ==== Proof.Run.lean ====
/-
  The run of the whole program: on every device it ends, the result and the arguments are what the segments say, and every
  counter is zero.
-/
module

public import proofs.«01_k».proof.Proof.Launch
public import Idealize.ShloMosaic.Lib.Quiescent

@[expose] public section

noncomputable section

namespace Cert.KernelIdeal.Ex

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Seg)

variable (m : (ℓ : Loc nD τ sig) → Buf (Elt F) ℓ) (ρ : Dev nD → PrngReg)

/-! ## The states between the segments -/

/-- What rides beside the buffers: before the kernel call, and after it. -/
def rest : Fin 2 → Dev nD → sProp 𝕄
  | 0, c => iprop(Tk m c ∗ (∃ r, prngReg c r) ∗ ∃ W, owes (c : Thread nD τ) (O₀ c) W)
  | 1, c => iprop(semVal (barCell c) 0 ∗ ∃ W, owes (c : Thread nD τ) (0 : CellTallies nD τ sig Unit) W)

/-- The buffers the kernel call's windows read and write, apart from the others. -/
theorem held_parts (c : Dev nD) (W : Valuation τ sig (Elt F)) : (StableHlo.held (c : Thread nD τ) (Pipeline.ucRefs τ sig) W : sProp 𝕄)
    = iprop(StableHlo.held (c : Thread nD τ) (Pipeline.arrRefs (τ := τ) spec0) W
      ∗ StableHlo.held (c : Thread nD τ) (Pipeline.ucRefs τ sig \ Pipeline.arrRefs (τ := τ) spec0) W) :=
  StableHlo.held_sub_split (c : Thread nD τ) (Pipeline.arrRefs_sub_ucRefs spec0 winFacts0.arr_unscoped) W

/-- The host's arrays and the rest give what the call needs. -/
theorem enter (c : Dev nD) : iprop(StableHlo.held (c : Thread nD τ) (Pipeline.ucRefs τ sig) (V1 m c) ∗ rest m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) (Pipeline.ucRefs τ sig \ Pipeline.arrRefs (τ := τ) spec0) (V1 m c) ∗ emp) ∗ Tk m c ∗ ∃ Wd, owes (c : Thread nD τ) (0 + O₀ c) Wd)
  rw [held_parts, zero_add]
  unfold rest
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What the call leaves gives the host's arrays and the rest. -/
theorem leave (c : Dev nD) : (reg0 m).post c ⊢ iprop(StableHlo.held (c : Thread nD τ) (Pipeline.ucRefs τ sig) (V2 m (outs m) c) ∗ rest m 1 c) := by
  show iprop(StableHlo.held (c.tc : Thread nD τ) (Pipeline.arrRefs (τ := τ) spec0) (V2 m (outs m) c) ∗ (∃ r, prngReg c r)
    ∗ (StableHlo.held (c.tc : Thread nD τ) (Pipeline.ucRefs τ sig \ Pipeline.arrRefs (τ := τ) spec0) (V2 m (outs m) c) ∗ emp) ∗ Yk c
    ∗ ∃ Wd, owes (c : Thread nD τ) (0 : CellTallies nD τ sig Unit) Wd) ⊢ _
  rw [held_parts]
  unfold rest Yk
  iintro ⟨Ha, -, ⟨Hr, -⟩, Hb, HO⟩
  isplitl [Ha Hr]
  · isplitl [Ha] <;> iassumption
  isplitl [Hb] <;> iassumption

/-- A device's buffers and its rest at the beginning. -/
abbrev first (c : Dev nD) : sProp 𝕄 := iprop(StableHlo.held (c : Thread nD τ) (Pipeline.ucRefs τ sig) (V0 m c) ∗ rest m 0 c)
/-- Its buffers at the end, its barrier's counter at zero. -/
abbrev last (c : Dev nD) : sProp 𝕄 := iprop(StableHlo.held (c : Thread nD τ) (Pipeline.ucRefs τ sig) (V3 m (outs m) c) ∗ semVal (barCell c) 0)

/-! ## The launch -/

/-- The one element the launch starts from: the pipeline's part and the exchange's part. -/
def seed : UU :=
  (initOf (Pipeline.cells (Pipeline.pin (pcfgs (F := F)) adm) cellOf_inj) (Pipeline.launchToks (Pipeline.pin (pcfgs (F := F)) adm) cellOf_inj),
    launchOf bars cps rights)
/-- The exchange's part, kept on the first device until all is dealt. -/
def ghost : sProp 𝕄 := BI.own (ER (launchOf bars cps rights))
/-- The ghost state, kept by the first device alone. -/
def kept0 (c : Dev nD) : sProp 𝕄 := if c = 0 then ghost (F := F) else iprop(emp)

/-- All that is kept is the ghost state, once. -/
theorem kept0_all : bigSep Finset.univ (kept0 (F := F)) = ghost (F := F) := by
  rw [bigSep_univ_at _ (0 : Dev nD), bigSep_congr (s := Finset.univ.erase (0 : Dev nD)) (Ψ := fun _ => (BI.emp : sProp 𝕄))
    fun c hc => by unfold kept0; rw [if_neg (Finset.ne_of_mem_erase hc)]; rfl, BI.bigSep_emp_const]
  unfold kept0
  rw [if_pos rfl]
  exact BI.equiv_iff.mp sep_emp

/-- The seed gives the pipeline's ghost state and that of the rounds. -/
theorem seed_split : (ownU (seed (F := F)) : sProp 𝕄) ⊢ |={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ (kept0 (F := F))) := by
  rw [kept0_all]
  unfold seed ghost
  iintro Hu
  ihave H := (ownU_pair _ _) $$ Hu
  icases H with ⟨HP, HX⟩
  imodintro
  isplitl [HP]; · iexact HP
  iexact HX

/-- A device's unscoped semaphores are its barrier, at zero. -/
theorem semZero (c : Dev nD) : (unscopedSems0 c : sProp 𝕄) = semVal (barCell c) 0 := by
  unfold unscopedSems0
  rw [show (Finset.univ.filter fun sm : SemLoc sig => ¬ sm.isScoped .tc) = {SemLoc.reg barS} from by decide +kernel, bigSep_singleton]

/-- A device's launch holdings that are not yet the exchange's. -/
def own0 (c : Dev nD) : sProp 𝕄 :=
  iprop((StableHlo.held (c : Thread nD τ) (Pipeline.ucRefs τ sig) (V0 m c) ∗ (∃ r, prngReg c r) ∗ ∃ W, owes (c : Thread nD τ) (O₀ c) W)
    ∗ (cred (tallyAt (barCell c) () 5) ∗ bigSep Finset.univ fun j : Fin 20 => cred (tallyAt (recvCell j c) () (N j))))

/-- A device's launch, sorted into arrays, barrier and the rest. -/
theorem sort (c : Dev nD) : iprop(unscopedBufs c (fun b => m ((c : Thread nD τ).loc b)) ∗ unscopedSems0 c ∗ owes (c : Thread nD τ) (O₀ c) ∅
      ∗ Pipeline.launchCred O₀ c ∗ prngReg c (ρ c) ∗ kept0 (F := F) c)
    ⊢ (iprop(own0 m c ∗ (semVal (barCell c) 0 ∗ kept0 (F := F) c)) : sProp 𝕄) := by
  rw [show unscopedBufs c (fun b => m ((c : Thread nD τ).loc b)) = (StableHlo.held (c : Thread nD τ) (Pipeline.ucRefs τ sig) (V0 m c) : sProp 𝕄)
    from Pipeline.unscopedBufs_held c (V0 m c), semZero]
  unfold own0
  iintro ⟨Hh, Hs, HO, Hc, Hp, HG⟩
  ihave Hc' := (creds (F := F) c) $$ Hc
  isplitr [Hs HG]
  · isplitr [Hc']
    · isplitl [Hh]; · iexact Hh
      isplitl [Hp]; · iexists (ρ c); iexact Hp
      iexists ∅; iexact HO
    iexact Hc'
  isplitl [Hs] <;> iassumption

/-- One device's cards, from the piles. -/
theorem hand (K : GSem nD τ sig → ℕ) (c : Dev nD) :
    iprop(records m K ∗ (own0 m c ∗ atPos ER (barCell c) 0 ∅ 0 ∗ bigSep Finset.univ (fun j : Fin 20 => iprop(openTok ER (sendCell j c) ∗ openTok ER (recvCell j c)))
      ∗ bigSep Finset.univ (fun l : Fin 5 => dutyTok ER (barCell (pal l c)) 0 l)
      ∗ bigSep Finset.univ (fun j : Fin 20 => iprop(dutyTok ER (sendCell j c) 0 0 ∗ dutyTok ER (recvCell j (peer j c)) 0 0)))) ⊢ (first m c : sProp 𝕄) := by
  have e : (bigSep Finset.univ (fun j => dealCopy (F := F) j c) : sProp 𝕄)
      = iprop(bigSep Finset.univ (fun j : Fin 20 => iprop(openTok ER (sendCell j c) ∗ openTok ER (recvCell j c)))
        ∗ bigSep Finset.univ (fun j : Fin 20 => iprop(dutyTok ER (sendCell j c) 0 0 ∗ dutyTok ER (recvCell j (peer j c)) 0 0))
        ∗ bigSep Finset.univ (fun j : Fin 20 => cred (tallyAt (recvCell j c) () (N j)))) := by
    rw [← bigSep_sep', ← bigSep_sep']
    rfl
  unfold own0 first rest
  iintro ⟨#HR, ⟨⟨Hh, Hp, HO⟩, Hc5, Hcj⟩, Ha, Hop, Hl, Hd⟩
  isplitl [Hh]; · iexact Hh
  isplitr [Hp HO]
  · iapply (deal_Tk m K c)
    isplitr; · iexact HR
    unfold deal
    isplitl [Ha Hc5]
    · isplitl [Ha] <;> iassumption
    isplitl [Hl]; · iexact Hl
    iapply (Entails.of_eq e.symm)
    isplitl [Hop]; · iexact Hop
    isplitl [Hd] <;> iassumption
  isplitl [Hp] <;> iassumption

/-- The barriers of all devices are the barrier cells, at zero. -/
theorem bars_sem : bigSep Finset.univ (fun c : Dev nD => (semVal (barCell c) 0 : sProp 𝕄)) = bigSep bars (fun g => (semVal g 0 : sProp 𝕄)) :=
  (bigSep_map (s := Finset.univ) barEmb (Φ := fun g : GSem nD τ sig => (semVal g 0 : sProp 𝕄))).symm
/-- The positions of all barrier cells, device by device. -/
theorem bars_pos : bigSep bars (fun g => (atPos ER g 0 ∅ 0 : sProp 𝕄)) = bigSep Finset.univ (fun c : Dev nD => (atPos ER (barCell c) 0 ∅ 0 : sProp 𝕄)) :=
  bigSep_map (s := Finset.univ) barEmb (Φ := fun g : GSem nD τ sig => (atPos ER g 0 ∅ 0 : sProp 𝕄))
/-- The opening rights of all copy cells, device by device. -/
theorem cps_open : bigSep cps (fun g => (openTok ER g : sProp 𝕄))
    = bigSep Finset.univ (fun c : Dev nD => bigSep Finset.univ fun j : Fin 20 => iprop(openTok ER (sendCell j c) ∗ openTok ER (recvCell j c))) := by
  rw [bigSep_map, bigSep_univ_prod]
  refine bigSep_congr fun c _ => ?_
  rw [bigSep_univ_prod]
  exact bigSep_congr fun j _ => bigSep_fin_two (fun k : Fin 2 => (openTok ER ((c : Thread nD τ), osem (j, k)) : sProp 𝕄))

/-- The launch gives every device its beginning. -/
theorem launch : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ kept0 (F := F) c)) ∗ levAts L lv)
    ⊢ (|={Set.univ}=> bigSep Finset.univ (first m) : sProp 𝕄) := by
  have hs : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ kept0 (F := F) c))
      ⊢ (iprop((bigSep Finset.univ fun c => own0 m c) ∗ (bigSep bars fun g => semVal g 0) ∗ ghost (F := F)) : sProp 𝕄) := by
    rw [← bars_sem, ← kept0_all, ← bigSep_sep', ← bigSep_sep']
    exact bigSep_mono fun c _ => sort m ρ c
  iintro ⟨H, -⟩
  ihave H' := hs $$ H
  icases H' with ⟨HB, Hv, Hu⟩
  imod (Rounds.fund_launch ER (Rd (part m)) bars_cps (fun g _ h => h) rights) $$ [Hv Hu] with ⟨%K, -, #Hinv, #Hr, Hat, Hopen, Htok⟩
  · isplitl [Hv]; · iexact Hv
    unfold ghost
    iexact Hu
  imodintro
  ihave Hat' := (Entails.of_eq (bars_pos (F := F))) $$ Hat
  ihave Hop' := (Entails.of_eq (cps_open (F := F))) $$ Hopen
  ihave Ht := (Entails.of_eq (rights_dealt (F := F))) $$ Htok
  icases Ht with ⟨Hl, Hd⟩
  iapply (bigSep_with_persistent (R := records m K) fun c _ => hand m K c)
  isplitr
  · unfold records
    isplitr; · iexact Hinv
    iexact Hr
  iapply Idealize.ShloMosaic.Smoke.bigSep_pair
  isplitl [HB]; · iexact HB
  iapply Idealize.ShloMosaic.Smoke.bigSep_pair
  isplitl [Hat']; · iexact Hat'
  iapply Idealize.ShloMosaic.Smoke.bigSep_pair
  isplitl [Hop']; · iexact Hop'
  iapply Idealize.ShloMosaic.Smoke.bigSep_pair
  isplitl [Hl] <;> iassumption

/-! ## The run -/

/-- The barrier is the only semaphore that outlives the call. -/
theorem only_bar : ∀ sm : SemLoc sig, sm.isScoped .tc = false → sm = .reg barS := by decide +kernel

/-- The program's segments on device `c`. -/
abbrev parts (c : Dev nD) : List (Seg (pcfgs (F := F)) adm (dats m) () defs₀ 𝒱₀ L lv) := segs m (outs m) 𝒱₀ L lv (rest m) () (dats m) (reg0 m) c

set_option backward.isDefEq.respectTransparency.types false in
/-- From any memory with zero counters every fair run of the program ends; then every unscoped buffer holds what the
    segments leave in it, and every counter of the machine is zero. -/
theorem run_main : θ_run defs (onTc (τ := τ) (main (F := F))) ⟨m, fun _ => 0, ρ⟩
    (fun r => (∀ c : Dev nD, ∀ b ∈ Pipeline.ucRefs τ sig, r.2.mem ((c : Thread nD τ).1, b) = V3 m (outs m) c b) ∧ r.2.sem = fun _ => 0) :=
  Pipeline.θ_run_regions_kit_dev_sems (pcfgs (F := F)) adm (dats m) () cellOf_inj EP defs₀ 𝒱₀ L lv m ρ main (parts m)
    (fun c Q => by
      rewrite [main_chain c, Seg.run_eq_chain,
        show (parts m c).map Seg.prog = [StableHlo.seq (hostOps0 c), Prog.lift (.customCall (Pipeline.entry 0) ()), StableHlo.seq hostOps1] from rfl]
      dsimp (config := { failIfUnchanged := false }) only
      exact .rfl)
    (fun c => by simp only [parts, segs, Seg.pipes_host, Seg.pipes_region, Seg.pipes_nil]; decide) O₀ L_of_ne (kept0 (F := F)) (seed (F := F)) (seed_split (F := F))
    (T₀ := first m) (Tₙ := last m)
    (hch := fun c => ⟨.rfl, enter m c, leave m c, by
      show iprop(StableHlo.held (c : Thread nD τ) (Pipeline.ucRefs τ sig) (V3 m (outs m) c)
          ∗ (semVal (barCell c) 0 ∗ ∃ W, owes (c : Thread nD τ) (0 : CellTallies nD τ sig Unit) W))
        ⊢ iprop(last m c ∗ ∃ W, owes (c : Thread nD τ) (0 : CellTallies nD τ sig Unit) W)
      iintro ⟨Hh, Hb, HO⟩
      isplitr [HO]
      · isplitl [Hh] <;> iassumption
      iexact HO⟩)
    (hinit := launch m ρ)
    (QY := fun c s => (∀ b ∈ Pipeline.ucRefs τ sig, s.mem ((c : Thread nD τ).1, b) = V3 m (outs m) c b) ∧ s.sem (barCell c) = 0)
    (hfin := fun c s' => by
      dsimp only [last]
      unfold StableHlo.held
      iintro ⟨⟨Hh, Hb⟩, HSI⟩
      icombine HSI Hb gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c sm hsm => by
      obtain rfl := only_bar sm hsm
      exact (h c).2⟩)

end Cert.KernelIdeal.Ex

end
-- ==== Proof.Frames.lean ====
/- The frames: each of the three programs runs to the end, leaves its arguments as they were, and leaves every
   semaphore at zero. -/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Frames

open Idealize.ShloMosaic Idealize.SL.Sem
open Cert.KernelIdeal Cert.KernelIdeal.Gen Cert.KernelIdeal.Ex

variable {F : FTy → Type} [FloatOps F]

/-- The kernel's program, over any floats: it runs to the end, every device's arguments end as they began, and every
    semaphore ends at zero. -/
theorem kernel (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v19) = V3 m (outs m) c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      h.1 c (Proc.devRef .tc main_v19) (Finset.mem_filter.mpr ⟨StableHlo.devRef_mem_tcRefs main_v19, by decide⟩),
      (h.1 c (Proc.devRef .tc main_arg0) (Finset.mem_filter.mpr ⟨StableHlo.devRef_mem_tcRefs main_arg0, by decide⟩)).trans (V3_main_arg0 m (outs m) c),
      (h.1 c (Proc.devRef .tc main_arg1) (Finset.mem_filter.mpr ⟨StableHlo.devRef_mem_tcRefs main_arg1, by decide⟩)).trans (V3_main_arg1 m (outs m) c),
      (h.1 c (Proc.devRef .tc main_arg2) (Finset.mem_filter.mpr ⟨StableHlo.devRef_mem_tcRefs main_arg2, by decide⟩)).trans (V3_main_arg2 m (outs m) c),
      (h.1 c (Proc.devRef .tc main_arg3) (Finset.mem_filter.mpr ⟨StableHlo.devRef_mem_tcRefs main_arg3, by decide⟩)).trans (V3_main_arg3 m (outs m) c),
      (h.1 c (Proc.devRef .tc main_arg4) (Finset.mem_filter.mpr ⟨StableHlo.devRef_mem_tcRefs main_arg4, by decide⟩)).trans (V3_main_arg4 m (outs m) c)⟩,
    h.2⟩) (run_main m ρ)

/-- The frame of the idealized kernel. -/
theorem ideal : Cert.quiescent_KernelIdeal := fun m g _ =>
  (θ_run Cert.KernelIdeal.defs _ _).mono (fun _ h => ⟨fun c => (h.1 c).2, h.2⟩) (kernel (F := Ideal) m g)

/-- The frame of the reference: it holds no semaphore at all. -/
theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The body table of the printed kernel is the idealized one's: the two texts are the same. -/
theorem bodies : Cert.Kernel.defs₀ (F := Bits) = defs₀ (F := Bits) := by
  funext p l a
  match p with
  | .tc =>
    match l, a with
    | ⟨0, _⟩, (t, s) => exact congrFun rfl _
    | ⟨n + 1, h⟩, _ => exact absurd h (Nat.not_lt.2 (Nat.le_add_left _ _))
  | .scScalar _ => rfl
  | .scVector _ _ => rfl

/-- So is the whole table, the pipeline's entries among it. -/
theorem table : Cert.Kernel.defs (F := Bits) = defs (F := Bits) := congrArg (Pipeline.defs (pcfgs (F := Bits))) bodies

/-- And the host code. -/
theorem host : Cert.Kernel.main (F := Bits) = main (F := Bits) := rfl

/-- The frame of the kernel as printed: its text is the idealized one's, read at the machine's own floats. -/
theorem printed : Cert.quiescent_Kernel := by
  intro m g _
  have h : θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
    (θ_run defs _ _).mono (fun _ h => ⟨fun c => (h.1 c).2, h.2⟩) (kernel (F := Bits) m g)
  rw [← table] at h
  exact h

end Cert.Frames

end
-- ==== Proof.Attend.lean ====
/-
  The attention of one head, as a formula over extended reals: block-causal scores, their exponentials against the
  greatest of the row, the weights they make, and the sum of the values under the weights.
-/
module

public import Idealize.ShloMosaic.PureOps.Ideal

@[expose] public section

noncomputable section

namespace Cert.Attn

open Idealize.ShloMosaic
open scoped BigOperators

/-- Query row `i` sees key row `j` when the key's block of 64 rows is not past the query's: a mask word. -/
def seen (i j : Fin 512) : BitVec 1 := if j.val / 64 ≤ i.val / 64 then 1#1 else 0#1

variable (Q K V : Fin 512 → Fin 64 → EReal)

/-- The scaled score where the key is seen, the fill value where it is not. -/
def score (i j : Fin 512) : EReal :=
  Scalar.select (seen i j) ((∑ d, Q i d * K j d) * Ideal.ofBits .f32 0x3E000000#32) (Ideal.ofBits .f32 0xCE6E6B28#32)

/-- The greatest score of a row. -/
def best (i : Fin 512) : EReal := Finset.univ.fold max (Ideal.ofBits .f32 0xFF800000#32) (score Q K i)

/-- The exponential of a score against the row's greatest. -/
def weight (i j : Fin 512) : EReal := Ideal.exp (score Q K i j - best Q K i)

/-- The values under the weights. -/
def attend (i : Fin 512) (d : Fin 64) : EReal := ∑ j, Ideal.div (weight Q K i j) (∑ j', weight Q K i j') * V j d

/-- What one column of the heads' outputs adds to an element of the result: the attention of the column's head, the queries
    being projected with the head's weights `w`, times the column's output weight `u`. -/
def term (x : Fin 512 → Fin 768 → EReal) (w : Fin 768 → Fin 64 → EReal) (k v : Fin 512 → Fin 64 → EReal) (u : EReal) (i : Fin 512) (d : Fin 64) : EReal :=
  attend (fun a e => ∑ j : Fin 768, x a j * w j e) k v i d * u

/-- The whole attention at an element: 16384 columns, 64 of every one of 256 heads. -/
def whole (x : Fin 2 → Fin 512 → Fin 768 → EReal) (wq : Fin 768 → Fin 16384 → EReal) (k v : Fin 2 → Fin 512 → Fin 256 → Fin 64 → EReal)
    (wo : Fin 16384 → Fin 768 → EReal) (b : Fin 2) (i : Fin 512) (n : Fin 768) : EReal :=
  ∑ t : Fin 16384, term (x b) (fun j e => wq j ⟨t.val / 64 * 64 + e.val, by omega⟩) (fun a e => k b a ⟨t.val / 64, by omega⟩ e)
    (fun a e => v b a ⟨t.val / 64, by omega⟩ e) (wo t n) i ⟨t.val % 64, by omega⟩

end Cert.Attn

end
-- ==== Proof.Head.lean ====
/-
  One head and one batch of the kernel's attention at an element, over the reals.
-/
module

public import proofs.«01_k».proof.Proof.Batch
public import proofs.«01_k».proof.Proof.Attend
public import Idealize.ShloMosaic.Lib.Pipeline.ValueKit

@[expose] public section

set_option maxRecDepth 16384

noncomputable section

namespace Cert.KernelIdeal.Ex

open Idealize.ShloMosaic Idealize.SL.Sem Cert.KernelIdeal Cert.KernelIdeal.Gen
open Cert.Attn
open scoped BigOperators

/-- The quotient by 64, rounded down, as the kernel takes it of a word. -/
def blockWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

/-- On the row numbers it is the quotient. -/
theorem blockWord_eq : ∀ i : Fin 512, blockWord (BitVec.ofNat 32 i.val) = BitVec.ofNat 32 (i.val / 64) := by decide +kernel

/-- Comparing two of the eight block numbers as signed words is comparing the numbers. -/
theorem le_eight : ∀ a b : Fin 8, IntOp.cmpi CmpIPredicate.sle (BitVec.ofNat 32 a.val) (BitVec.ofNat 32 b.val) = if a.val ≤ b.val then 1#1 else 0#1 := by
  decide

/-- The kernel's mask is the block mask. -/
theorem mask_apply (i j : Fin 512) : maskV (ix2 i j) = seen i j := by
  have h : maskV (ix2 i j) = IntOp.cmpi CmpIPredicate.sle (blockWord (BitVec.ofNat 32 j.val)) (blockWord (BitVec.ofNat 32 i.val)) := by
    pointwise [maskV, k0_pay2, k0_pay3, k0_pay4]
    rfl
  rw [h, blockWord_eq, blockWord_eq]
  exact le_eight ⟨j.val / 64, by omega⟩ ⟨i.val / 64, by omega⟩

/-- One head at an element: the attention over the queries that are 64 columns of `q`. -/
theorem headOut_apply (q : FVec Ideal S512x512 .f32) (o : ℕ) (ho : S512x512.Slices ![0, o] S512x64) (h : o + 64 ≤ 512)
    (k v : FVec Ideal S1x512x1x64 .bf16) (i : Fin 512) (d : Fin 64) :
    headOut (F := Ideal) q o ho k v (ix2 i d)
      = attend (fun a e => q (ix2 a ⟨o + e.val, by omega⟩)) (fun a e => k (ix4 0 a 0 e)) (fun a e => v (ix4 0 a 0 e)) i d := by
  pointwise [headOut]
  simp only [mask_apply]
  rfl

/-- The queries at an element. -/
theorem queries_apply (x : Vec Ideal S512x768 .f32) (w : Vec Ideal S768x512 .f32) (i t : Fin 512) :
    queries (F := Ideal) x w (ix2 i t) = ∑ k : Fin 768, x (ix2 i k) * w (ix2 k t) := by
  pointwise [queries]

/-- Eight heads side by side at an element: column `t` is column `t % 64` of head `t / 64`. -/
theorem heads_apply (f : Fin 8 → FVec Ideal S512x64 .f32) (i t : Fin 512) :
    concatenate S512x512 1 [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩]
        concatenates_S512x64_S512x64_S512x64_S512x64_S512x64_S512x64_S512x64_S512x64_S512x512_d1 (ix2 i t)
      = f ⟨t.val / 64, by omega⟩ (ix2 i ⟨t.val % 64, by omega⟩) := by
  refine concatenate_ofFn_apply (s₁ := S512x64) 1 f concatenates_S512x64_S512x64_S512x64_S512x64_S512x64_S512x64_S512x64_S512x64_S512x512_d1
    rfl 64 rfl (ix2 i t) ⟨t.val / 64, by omega⟩ rfl (ix2 i ⟨t.val % 64, by omega⟩) rfl fun b hb => ?_
  match b with
  | 0 => rfl
  | 1 => exact absurd rfl hb

/-- Eight slices of 64 columns fit side by side into 512. -/
theorem slices_head (h : Fin 8) : S512x512.Slices ![0, h.val * 64] S512x64 := by
  revert h; decide

/-- A batch's projection at an element: its eight heads' columns against the output weights. -/
theorem proj_apply (f : Fin 8 → FVec Ideal S512x64 .f32) (wo : Vec Ideal S512x768 .f32) (i : Fin 512) (n : Fin 768) :
    matmul (F := Ideal) (φ₁ := .f32) (φ₂ := .f32) dot_S512x512_S512x768_S512x768_1_0_0_1_n_n none
      (concatenate S512x512 1 [⟨S512x64, f 0⟩, ⟨S512x64, f 1⟩, ⟨S512x64, f 2⟩, ⟨S512x64, f 3⟩, ⟨S512x64, f 4⟩, ⟨S512x64, f 5⟩, ⟨S512x64, f 6⟩, ⟨S512x64, f 7⟩]
        concatenates_S512x64_S512x64_S512x64_S512x64_S512x64_S512x64_S512x64_S512x64_S512x512_d1)
      (shapeCast S512x768 wo shapeCasts_S512x768_S512x768) (constant S512x768 .f32 0x00000000#32) (ix2 i n)
      = ∑ t : Fin 512, f ⟨t.val / 64, by omega⟩ (ix2 i ⟨t.val % 64, by omega⟩) * wo (ix2 t n) := by
  simp only [← heads_apply]
  generalize concatenate S512x512 1 _ _ = g
  pointwise

/-- A batch at an element: the heads' attention against the output weights. -/
theorem batchOut_apply {r b : ℕ} (H : BlockFits r b) (hr : r + 512 ≤ 1024) (hb : b < 2) (X : Res Ideal) (Wq : S768x512.Idx → Elt Ideal .f32)
    (A B : S2x512x8x64.Idx → Elt Ideal .bf16) (Wo : S512x768.Idx → Elt Ideal .f32) (i : Fin 512) (n : Fin 768) :
    batchOut (F := Ideal) H X Wq A B Wo (ix2 i n)
      = ∑ t : Fin 512, attend
          (fun a e => ∑ k : Fin 768, X (ix2 ⟨r + a.val, by omega⟩ k) * Wq (ix2 k ⟨t.val / 64 * 64 + e.val, by omega⟩))
          (fun a e => A (ix4 ⟨b, hb⟩ a ⟨t.val / 64, by omega⟩ e)) (fun a e => B (ix4 ⟨b, hb⟩ a ⟨t.val / 64, by omega⟩ e))
          i ⟨t.val % 64, by omega⟩ * Wo (ix2 t n) := by
  have hX : ∀ a k, X ((batchRect H).emb (ix2 a k)) = X (ix2 ⟨r + a.val, by omega⟩ k) := fun a k => by
    congr 1; funext d; apply Fin.ext; rw [batch_val]
    match d with
    | 0 => rfl
    | 1 => exact Nat.zero_add _
  have hWq : ∀ k t, Wq (wqRect.emb (ix2 k t)) = Wq (ix2 k t) := fun k t => by
    congr 1; funext d; apply Fin.ext; rw [Rect.emb_apply]
    match d with
    | 0 => exact (Nat.zero_add _).trans (Nat.one_mul _)
    | 1 => exact (Nat.zero_add _).trans (Nat.one_mul _)
  have hWo : ∀ t n, Wo (woRect.emb (ix2 t n)) = Wo (ix2 t n) := fun k t => by
    congr 1; funext d; apply Fin.ext; rw [Rect.emb_apply]
    match d with
    | 0 => exact (Nat.zero_add _).trans (Nat.one_mul _)
    | 1 => exact (Nat.zero_add _).trans (Nat.one_mul _)
  have hA : ∀ (D : S2x512x8x64.Idx → Elt Ideal .bf16) (h : Fin 8) a e, headIn H h D (ix4 0 a 0 e) = D (ix4 ⟨b, hb⟩ a h e) := fun D h a e => by
    show D _ = _
    congr 1; funext d; apply Fin.ext; rw [Rect.emb_apply]
    match d with
    | 0 => rfl
    | 1 => exact (Nat.zero_add _).trans (Nat.one_mul _)
    | 2 => rfl
    | 3 => exact (Nat.zero_add _).trans (Nat.one_mul _)
  refine (proj_apply (fun h => headOut (F := Ideal) (queries (fun y => X ((batchRect H).emb y)) (fun y => Wq (wqRect.emb y))) (h.val * 64) (slices_head h)
    (headIn H h A) (headIn H h B)) (fun y => Wo (woRect.emb y)) i n).trans ?_
  refine Finset.sum_congr rfl fun t _ => ?_
  rw [headOut_apply _ _ _ (by show t.val / 64 * 64 + 64 ≤ 512; omega)]
  simp only [queries_apply, hX, hWq, hWo, hA]

/-- What both batches leave, at row `i` of batch `b`. -/
theorem partialOut_apply (X : Res Ideal) (Wq : S768x512.Idx → Elt Ideal .f32) (A B : S2x512x8x64.Idx → Elt Ideal .bf16) (Wo : S512x768.Idx → Elt Ideal .f32)
    (b : Fin 2) (i : Fin 512) (n : Fin 768) :
    partialOut (F := Ideal) X Wq A B Wo (ix2 ⟨512 * b.val + i.val, by omega⟩ n)
      = ∑ t : Fin 512, term (fun a j => X (ix2 ⟨512 * b.val + a.val, by omega⟩ j)) (fun j e => Wq (ix2 j ⟨t.val / 64 * 64 + e.val, by omega⟩))
          (fun a e => A (ix4 b a ⟨t.val / 64, by omega⟩ e)) (fun a e => B (ix4 b a ⟨t.val / 64, by omega⟩ e)) (Wo (ix2 t n)) i ⟨t.val % 64, by omega⟩ := by
  unfold partialOut
  match b with
  | 0 =>
    refine (dif_pos (show 512 * 0 + i.val < 512 by omega)).trans ?_
    refine Eq.trans ?_ (batchOut_apply blockFits0 (by decide) (by decide) X Wq A B Wo i n)
    congr 1
    refine congrArg (fun j => ix2 j n) (Fin.ext ?_)
    show 512 * 0 + i.val = i.val
    omega
  | 1 =>
    refine (dif_neg (show ¬ 512 * 1 + i.val < 512 by omega)).trans ?_
    refine Eq.trans ?_ (batchOut_apply blockFits1 (by decide) (by decide) X Wq A B Wo i n)
    congr 1
    refine congrArg (fun j => ix2 j n) (Fin.ext ?_)
    show 512 * 1 + i.val - 512 = i.val
    omega

end Cert.KernelIdeal.Ex

end
-- ==== Proof.RefHead.lean ====
/-
  The reference's result at an element, over the reals.
-/
module

public import proofs.«01_k».proof.Proof.Gen.ReferenceIdeal.Run
public import proofs.«01_k».proof.Proof.Attend
public import Idealize.ShloMosaic.Lib.Pipeline.ValueKit

@[expose] public section

set_option maxRecDepth 16384

noncomputable section

namespace Cert.ReferenceIdeal.Value

open Idealize.ShloMosaic Idealize.SL.Sem Cert.ReferenceIdeal Cert.ReferenceIdeal.Gen
open Cert.Attn
open scoped BigOperators

/-- The quotient by 64, rounded down, as the reference takes it of a word. -/
def blockWord (w d : BitVec 32) : BitVec 32 :=
  Scalar.select
    (IntOp.andi
      (IntOp.cmpi (w := 32) CmpIPredicate.ne (if w = 0 then 0 else if w.msb = true then -1 else 1) (if d = 0 then 0 else if d.msb = true then -1 else 1))
      (IntOp.cmpi CmpIPredicate.ne (IntOp.remsi ArithUnit.host w d) 0#32))
    (IntOp.subi (IntOp.divsi ArithUnit.host w d) 1#32)
    (IntOp.divsi ArithUnit.host w d)

/-- On the row numbers it is the quotient. -/
theorem blockWord_eq : ∀ i : Fin 512, blockWord (BitVec.ofNat 32 i.val) 64#32 = BitVec.ofNat 32 (i.val / 64) := by decide +kernel

/-- Comparing two of the eight block numbers as signed words is comparing the numbers. -/
theorem le_eight : ∀ a b : Fin 8, IntOp.cmpi CmpIPredicate.sle (BitVec.ofNat 32 a.val) (BitVec.ofNat 32 b.val) = if a.val ≤ b.val then 1#1 else 0#1 := by
  decide

/-- The comparison of the block numbers of two rows is the mask. -/
theorem seen_eq (i j : Fin 512) : IntOp.cmpi CmpIPredicate.sle (BitVec.ofNat 32 (j.val / 64)) (BitVec.ofNat 32 (i.val / 64)) = seen i j :=
  le_eight ⟨j.val / 64, by omega⟩ ⟨i.val / 64, by omega⟩

/-- Every row sees some key: its own. -/
theorem any_seen (i : Fin 512) : Finset.univ.fold (IntOp.ori : BitVec 1 → BitVec 1 → BitVec 1) 0#1 (fun j => seen i j) = 1#1 := by
  have hi : seen i i = 1#1 := if_pos le_rfl
  rw [← Finset.insert_erase (Finset.mem_univ i), Finset.fold_insert (Finset.notMem_erase _ _), hi]
  have ho : ∀ w : BitVec 1, IntOp.ori 1#1 w = 1#1 := by decide
  exact ho _

/-- The reference's result at an element: all heads' attention against the output weights. -/
theorem res_apply (m : (ℓ : Loc nD τ sig) → Buf (Elt Ideal) ℓ) (c : Dev nD) (b : Fin 2) (i : Fin 512) (n : Fin 768) :
    (res_main_v33 m c : S2x512x768.Idx → EReal) (ix3 b i n)
      = whole (fun b a k => m (c.tc.loc main_arg0) (ix3 b a k)) (fun k t => m (c.tc.loc main_arg1) (ix2 k t))
          (fun b a h e => m (c.tc.loc main_arg2) (ix4 b a h e)) (fun b a h e => m (c.tc.loc main_arg3) (ix4 b a h e))
          (fun t n => m (c.tc.loc main_arg4) (ix2 t n)) b i n := by
  unfold res_main_v33
  generalize hM : cmpi (s := S512x512) (w := 32) CmpIPredicate.sle _ _ = M
  have hs : ∀ i j, M (ix2 i j) = seen i j := fun i j => by
    rw [← hM, ← seen_eq, ← blockWord_eq, ← blockWord_eq]
    have h64 : id (constantI S_ 32 64#32) ix0 = 64#32 := rfl
    pointwise
    simp only [h64]
    clear hM
    unfold blockWord
    rfl
  clear hM
  pointwise
  simp only [hs, any_seen]
  unfold whole term
  refine Finset.sum_congr (M := EReal) rfl fun t _ => congrArg (· * _) (Finset.sum_congr rfl fun j _ => mul_comm _ _)

end Cert.ReferenceIdeal.Value

end
-- ==== Proof.Args.lean ====
/-
  What the kernel's windows hold, element by element, of the arrays the program was launched with.
-/
module

public import proofs.«01_k».proof.Proof.Region
public import Idealize.ShloMosaic.Lib.StableHlo.ReadAt
public import Idealize.ShloMosaic.Lib.DynamicIndex

@[expose] public section

set_option maxRecDepth 16384

noncomputable section

namespace Cert.KernelIdeal.Ex

open Idealize.ShloMosaic Idealize.SL.Sem Cert.KernelIdeal Cert.KernelIdeal.Gen
open Idealize.ShloMosaic.TcCoe

/-- A device's number is below 32. -/
theorem dev_lt (c : Dev nD) : c.val < 32 := c.isLt

variable (m : (ℓ : Loc nD τ sig) → Buf (Elt Ideal) ℓ) (c : Dev nD)

/-- The windows' one block begins at the origin of its array. -/
theorem win_index :
    (win0_0.index t0_0 0 = 0 ∧ win0_0.index t0_0 1 = 0) ∧ (win0_1.index t0_0 0 = 0 ∧ win0_1.index t0_0 1 = 0)
    ∧ (win0_2.index t0_0 0 = 0 ∧ win0_2.index t0_0 1 = 0 ∧ win0_2.index t0_0 2 = 0 ∧ win0_2.index t0_0 3 = 0)
    ∧ (win0_3.index t0_0 0 = 0 ∧ win0_3.index t0_0 1 = 0 ∧ win0_3.index t0_0 2 = 0 ∧ win0_3.index t0_0 3 = 0)
    ∧ (win0_4.index t0_0 0 = 0 ∧ win0_4.index t0_0 1 = 0) := by decide +kernel

/-- The query weights: the device's columns. -/
theorem inWq_apply (k : Fin 768) (t : Fin 512) : inWq m c (ix2 k t) = m (c.tc.loc main_arg1) (ix2 k t) := by
  unfold inWq
  rw [V1_of _ _ _ (by decide)]
  blk_point [win_index]

/-- The output weights: the device's rows. -/
theorem inWo_apply (t : Fin 512) (n : Fin 768) : inWo m c (ix2 t n) = m (c.tc.loc main_arg4) (ix2 t n) := by
  unfold inWo
  rw [V1_of _ _ _ (by decide)]
  blk_point [win_index]

/-- The rows of both batches, one under the other. -/
theorem inX_apply (r : Fin 1024) (k : Fin 768) : inX m c (ix2 r k) = m (c.tc.loc main_arg0) (ix3 ⟨r.val / 512, by omega⟩ ⟨r.val % 512, by omega⟩ k) := by
  have h : ∀ v : S1024x768.Idx → Ideal .f32, (win0_0.blk t0_0).view.read (Elt Ideal) v (ix2 r k) = v (ix2 r k) := fun v => by blk_point [win_index]
  unfold inX
  refine (h _).trans ?_
  after_reads_at

/-- The first head of device `c`, as the program computes its number. -/
theorem first_head : ∀ c : Dev nD,
    (Scalar.select
        (IntOp.cmpi CmpIPredicate.slt
          (IntOp.muli (id (Host.remui (Host.divui (constantI S_ 32 c.word) (constantI S_ 32 1#32)) (constantI S_ 32 32#32)) (Shape.Idx.first h_S_)) 8#32) 0#32)
        (IntOp.addi
          (IntOp.muli (id (Host.remui (Host.divui (constantI S_ 32 c.word) (constantI S_ 32 1#32)) (constantI S_ 32 32#32)) (Shape.Idx.first h_S_)) 8#32) 256#32)
        (IntOp.muli (id (Host.remui (Host.divui (constantI S_ 32 c.word) (constantI S_ 32 1#32)) (constantI S_ 32 32#32)) (Shape.Idx.first h_S_)) 8#32)).toInt
      = ((8 * c.val : ℕ) : Int) := by
  decide +kernel

/-- Eight heads cut out from head `8 c` on, at an element. -/
theorem heads_at {α : Type} (x : S2x512x256x64.Idx → α) (hr : S2x512x8x64.rank = S2x512x256x64.rank) (start : Fin S2x512x256x64.rank → Int)
    (h0 : start 0 = 0) (h1 : start 1 = 0) (h2 : start 2 = ((8 * c.val : ℕ) : Int)) (h3 : start 3 = 0) (b : Fin 2) (a : Fin 512) (h : Fin 8) (e : Fin 64)
    (l0 : Host.clampedStart S2x512x256x64 S2x512x8x64 hr start 0 + b.val < 2) (l1 : Host.clampedStart S2x512x256x64 S2x512x8x64 hr start 1 + a.val < 512)
    (l2 : Host.clampedStart S2x512x256x64 S2x512x8x64 hr start 2 + h.val < 256) (l3 : Host.clampedStart S2x512x256x64 S2x512x8x64 hr start 3 + e.val < 64) :
    x (ix4 ⟨_, l0⟩ ⟨_, l1⟩ ⟨_, l2⟩ ⟨_, l3⟩) = x (ix4 b a ⟨8 * c.val + h.val, by have := dev_lt c; omega⟩ e) := by
  have hc := dev_lt c
  have e0 : Host.clampedStart S2x512x256x64 S2x512x8x64 hr start 0 = 0 := Host.clampedStart_of_le hr start 0 0 h0 (le_refl 2)
  have e1 : Host.clampedStart S2x512x256x64 S2x512x8x64 hr start 1 = 0 := Host.clampedStart_of_le hr start 1 0 h1 (le_refl 512)
  have e2 : Host.clampedStart S2x512x256x64 S2x512x8x64 hr start 2 = 8 * c.val := Host.clampedStart_of_le hr start 2 (8 * c.val) h2 (by show 8 * c.val + 8 ≤ 256; omega)
  have e3 : Host.clampedStart S2x512x256x64 S2x512x8x64 hr start 3 = 0 := Host.clampedStart_of_le hr start 3 0 h3 (le_refl 64)
  simp only [e0, e1, e2, e3, Nat.zero_add]

/-- The keys: the device's eight heads. -/
theorem inK_apply (b : Fin 2) (a : Fin 512) (h : Fin 8) (e : Fin 64) :
    inK m c (ix4 b a h e) = m (c.tc.loc main_arg2) (ix4 b a ⟨8 * c.val + h.val, by have := dev_lt c; omega⟩ e) := by
  have hr : ∀ v : S2x512x8x64.Idx → Ideal .bf16, (win0_2.blk t0_0).view.read (Elt Ideal) v (ix4 b a h e) = v (ix4 b a h e) := fun v => by blk_point [win_index]
  unfold inK
  refine (hr _).trans ?_
  after_reads_at
  refine heads_at c _ _ _ ?_ ?_ ?_ ?_ b a h e _ _ _ _
  · show BitVec.toInt ((StableHlo.upto (hostOps0 c) (V0 m c) 17 (Proc.tc.devRef main_c_4) : S_.Idx → BitVec 32) (Shape.Idx.first h_S_)) = 0
    after_reads_at
    rfl
  · show BitVec.toInt ((StableHlo.upto (hostOps0 c) (V0 m c) 17 (Proc.tc.devRef main_c_5) : S_.Idx → BitVec 32) (Shape.Idx.first h_S_)) = 0
    after_reads_at
    rfl
  · show BitVec.toInt ((StableHlo.upto (hostOps0 c) (V0 m c) 17 (Proc.tc.devRef main_v9) : S_.Idx → BitVec 32) (Shape.Idx.first h_S_)) = _
    after_reads_at
    exact first_head c
  · show BitVec.toInt ((StableHlo.upto (hostOps0 c) (V0 m c) 17 (Proc.tc.devRef main_c_6) : S_.Idx → BitVec 32) (Shape.Idx.first h_S_)) = 0
    after_reads_at
    rfl

/-- The values: the device's eight heads. -/
theorem inV_apply (b : Fin 2) (a : Fin 512) (h : Fin 8) (e : Fin 64) :
    inV m c (ix4 b a h e) = m (c.tc.loc main_arg3) (ix4 b a ⟨8 * c.val + h.val, by have := dev_lt c; omega⟩ e) := by
  have hr : ∀ v : S2x512x8x64.Idx → Ideal .bf16, (win0_3.blk t0_0).view.read (Elt Ideal) v (ix4 b a h e) = v (ix4 b a h e) := fun v => by blk_point [win_index]
  unfold inV
  refine (hr _).trans ?_
  after_reads_at
  refine heads_at c _ _ _ ?_ ?_ ?_ ?_ b a h e _ _ _ _
  · show BitVec.toInt ((StableHlo.upto (hostOps0 c) (V0 m c) 29 (Proc.tc.devRef main_c_10) : S_.Idx → BitVec 32) (Shape.Idx.first h_S_)) = 0
    after_reads_at
    rfl
  · show BitVec.toInt ((StableHlo.upto (hostOps0 c) (V0 m c) 29 (Proc.tc.devRef main_c_11) : S_.Idx → BitVec 32) (Shape.Idx.first h_S_)) = 0
    after_reads_at
    rfl
  · show BitVec.toInt ((StableHlo.upto (hostOps0 c) (V0 m c) 29 (Proc.tc.devRef main_v15) : S_.Idx → BitVec 32) (Shape.Idx.first h_S_)) = _
    after_reads_at
    exact first_head c
  · show BitVec.toInt ((StableHlo.upto (hostOps0 c) (V0 m c) 29 (Proc.tc.devRef main_c_12) : S_.Idx → BitVec 32) (Shape.Idx.first h_S_)) = 0
    after_reads_at
    rfl

end Cert.KernelIdeal.Ex

end
-- ==== Proof.Levels.lean ====
/-
  Which devices an element has been summed over, and which rows a device still holds, after a number of copies; and how
  one copy changes that.
-/
module

public import proofs.«01_k».proof.Proof.Mesh

@[expose] public section

noncomputable section

namespace Cert.KernelIdeal.Ex

open Idealize.ShloMosaic Idealize.SL.Sem Cert.KernelIdeal Cert.KernelIdeal.Gen

/-- The five bits of a device's position: along the first axis, then the two of the second and of the third, low bit first. -/
def posBit (c : ℕ) : ℕ → ℕ
  | 0 => (c % 2 + c / 2 % 2) % 2
  | 1 => c / 2 % 2
  | 2 => c / 8 % 2
  | 3 => c / 4 % 2
  | _ => c / 16

/-- The level that half `h` of the rows is split along at stage `s`. -/
def order (h s : ℕ) : ℕ := if h = 0 then s else if s = 0 then 1 else if s = 1 then 2 else if s = 2 then 0 else if s = 3 then 4 else 3

/-- The stages of half `h` that are over after `n` copies. -/
def past (h n : ℕ) : ℕ := (n + 1 - h) / 2

/-- Device `c'` counts among those summed at device `c`: they agree on the levels not yet reduced. -/
def summed (h n c c' : ℕ) : Bool := (List.range 5).all fun s => s < past h n || posBit c (order h s) == posBit c' (order h s)

/-- The stages whose split an element must have come through to be kept. -/
def split (h n : ℕ) : ℕ := if past h n ≤ 5 then past h n else 10 - past h n

/-- The rows of block `b` (sixteen rows each) are held by device `c` after `n` copies. -/
def held (n c b : ℕ) : Bool := (List.range 5).all fun s =>
  split (b / 32) n ≤ s || posBit c (order (b / 32) s) == b % 32 / 2 ^ (4 - s) % 2

/-- Copy `j` of device `c` takes block `b` of the rows. -/
def taken (j : Fin 20) (c : Dev nD) (b : ℕ) : Bool := takeOff j c 0 ≤ 16 * b && 16 * b < takeOff j c 0 + nrow j

/-- Every copy begins at a multiple of sixteen rows and takes a multiple of sixteen. -/
theorem take_sixteen : ∀ (j : Fin 20) (c : Dev nD), takeOff j c 0 % 16 = 0 ∧ nrow j % 16 = 0 := by decide +kernel

/-- A copy belongs to one of two halves. -/
theorem half_lt : ∀ j : Fin 20, half j < 2 := by decide

/-- A block taken is one of the copy's half, and the partner held it; while reducing the own device held it too. -/
theorem taken_held : ∀ (j : Fin 20) (c : Dev nD) (b : Fin 64), held (j.val + 1) c.val b.val = true → taken j c b.val = true →
    half j = b.val / 32 ∧ held j.val (peer j c).val b.val = true ∧ (j.val < 10 → held j.val c.val b.val = true) := by decide +kernel

/-- A block not taken but held was held before, and the same devices are summed there. -/
theorem kept_held : ∀ (j : Fin 20) (c : Dev nD) (b : Fin 64), held (j.val + 1) c.val b.val = true → taken j c b.val = false →
    held j.val c.val b.val = true ∧ ∀ s : Fin 5, decide (s.val < past (b.val / 32) (j.val + 1)) = decide (s.val < past (b.val / 32) j.val) := by decide +kernel

/-- While reducing, the devices summed afterwards are those summed at either partner, each once. -/
theorem summed_add : ∀ (j : Fin 20) (c c' : Dev nD), j.val < 10 →
    (summed (half j) (j.val + 1) c.val c'.val = (summed (half j) j.val c.val c'.val || summed (half j) j.val (peer j c).val c'.val))
    ∧ (summed (half j) j.val c.val c'.val && summed (half j) j.val (peer j c).val c'.val) = false := by decide +kernel

/-- While gathering, every device is summed already. -/
theorem summed_all : ∀ (j : Fin 20) (c c' : Dev nD), 10 ≤ j.val →
    summed (half j) (j.val + 1) c.val c'.val = true ∧ summed (half j) j.val (peer j c).val c'.val = true := by decide +kernel

/-- Before any copy a device has summed itself alone. -/
theorem summed_zero : ∀ (h : Fin 2) (c c' : Dev nD), summed h.val 0 c.val c'.val = decide (c' = c) := by decide +kernel
/-- After all copies every device is summed. -/
theorem summed_end : ∀ (h : Fin 2) (c c' : Dev nD), summed h.val 20 c.val c'.val = true := by decide +kernel
/-- After all copies every block is live. -/
theorem held_end : ∀ (c : Dev nD) (b : Fin 64), held 20 c.val b.val = true := by decide +kernel

end Cert.KernelIdeal.Ex

end
-- ==== Proof.Total.lean ====
/-
  What the exchange computes over the reals: every device ends with the sum of all devices' arrays. After a number of
  copies an element is either one that was given away, of which nothing is said, or the sum over those devices that
  agree with the own one on the levels still to come.
-/
module

public import proofs.«01_k».proof.Proof.Sim
public import proofs.«01_k».proof.Proof.Levels
public import Idealize.ShloMosaic.PureOps.Ideal.Laws
public import Idealize.ShloMosaic.Lib.ValueIdx
public import Idealize.ShloMosaic.Lib.Pipeline.Value

@[expose] public section

noncomputable section

namespace Cert.KernelIdeal.Ex

open Idealize.ShloMosaic Idealize.SL.Sem Cert.KernelIdeal Cert.KernelIdeal.Gen
open scoped BigOperators

/-- An element lies under the rows a copy takes when its block of rows does. -/
theorem mem_take (j : Fin 20) (c : Dev nD) (i : S1024x768.Idx) : (∃ x, (takeRect j c).emb x = i) ↔ taken j c ((i 0).val / 16) = true := by
  have hm := take_sixteen j c
  have hb : taken j c ((i 0).val / 16) = true ↔ takeOff j c 0 ≤ (i 0).val ∧ (i 0).val < takeOff j c 0 + nrow j := by
    unfold taken
    rw [Bool.and_eq_true, decide_eq_true_iff, decide_eq_true_iff]
    omega
  rw [hb]
  constructor
  · rintro ⟨x, rfl⟩
    have hx : (x 0).val < nrow j := (x 0).isLt
    have e := rows_val _ _ (take_inb j c) x 0
    have e' : (((takeRect j c).emb x 0 : Fin _) : ℕ) = takeOff j c 0 + (x 0).val := e
    omega
  · rintro ⟨h1, h2⟩
    have h3 : (i 1).val < 768 := (i 1).isLt
    refine ⟨ValueIdx.ix2 ⟨(i 0).val - takeOff j c 0, by omega⟩ ⟨(i 1).val, h3⟩, ?_⟩
    funext a
    apply Fin.ext
    refine (rows_val _ _ (take_inb j c) _ a).trans ?_
    match a with
    | 0 => show takeOff j c 0 + ((i 0).val - takeOff j c 0) = (i 0).val; omega
    | 1 => show takeOff j c 1 + (i 1).val = (i 1).val; rw [take_col]; omega

/-- A copy worked in at an element it takes: the partner's element is added while reducing and put in its place while gathering. -/
theorem step_taken (j : Fin 20) (X : Dev nD → Res Ideal) (c : Dev nD) (i : S1024x768.Idx) (h : ∃ x, (takeRect j c).emb x = i) :
    step (F := Ideal) j X c i = if j.val < 10 then (X c i + X (peer j c) i : EReal) else X (peer j c) i := by
  obtain ⟨x, rfl⟩ := h
  unfold step
  rw [put_emb]
  unfold merged brought rounded
  rw [Idealize.ShloMosaic.shapeCast_self, Idealize.ShloMosaic.shapeCast_self]
  by_cases hj : j.val < 10
  · rw [if_pos hj, if_pos hj]
    rfl
  · rw [if_neg hj, if_neg hj]
    rfl

/-- The devices summed, as a set. -/
def those (h n : ℕ) (c : Dev nD) : Finset (Dev nD) := Finset.univ.filter fun c' : Dev nD => summed h n c.val c'.val = true

variable (P : Dev nD → Res Ideal)

/-- An element a device holds is the sum over the devices summed so far. -/
theorem V_held (n : ℕ) (hn : n ≤ 20) : ∀ (c : Dev nD) (i : S1024x768.Idx), held n c.val ((i 0).val / 16) = true →
    V P n c i = (∑ c' ∈ those ((i 0).val / 16 / 32) n c, P c' i : EReal) := by
  induction n with
  | zero =>
    intro c i _
    have hi : (i 0).val < 1024 := (i 0).isLt
    have e : those ((i 0).val / 16 / 32) 0 c = {c} := by
      ext c'
      rw [those, Finset.mem_filter, Finset.mem_singleton]
      have := summed_zero ⟨(i 0).val / 16 / 32, by omega⟩ c c'
      rw [this, decide_eq_true_iff]
      simp
    rw [e, Finset.sum_singleton]
    rfl
  | succ n ih =>
    intro c i hi
    have hi0 : (i 0).val < 1024 := (i 0).isLt
    have hb : (i 0).val / 16 < 64 := by omega
    let j : Fin 20 := ⟨n, hn⟩
    rw [V_succ P j c]
    by_cases ht : taken j c ((i 0).val / 16) = true
    · obtain ⟨h1, h2, h3⟩ := taken_held j c ⟨_, hb⟩ hi ht
      rw [step_taken j _ c i ((mem_take j c i).mpr ht)]
      have hp := ih (Nat.le_of_succ_le hn) (peer j c) i h2
      by_cases hj : j.val < 10
      · rw [if_pos hj]
        have hc := ih (Nat.le_of_succ_le hn) c i (h3 hj)
        rw [show V P j.val c i = _ from hc, show V P j.val (peer j c) i = _ from hp, ← h1]
        rw [← Finset.sum_union]
        · refine Finset.sum_congr ?_ fun _ _ => rfl
          ext c'
          rw [Finset.mem_union, those, those, those, Finset.mem_filter, Finset.mem_filter, Finset.mem_filter]
          have := (summed_add j c c' hj).1
          rw [show n + 1 = j.val + 1 from rfl, this, Bool.or_eq_true]
          simp
          exact Iff.rfl
        · rw [Finset.disjoint_left]
          intro c' ha hb
          rw [those, Finset.mem_filter] at ha hb
          have := (summed_add j c c' hj).2
          have ha2 : summed (half j) j.val c.val c'.val = true := ha.2
          have hb2 : summed (half j) j.val (peer j c).val c'.val = true := hb.2
          rw [ha2, hb2] at this
          exact absurd this (by decide)
      · rw [if_neg hj, show V P j.val (peer j c) i = _ from hp, ← h1]
        refine Finset.sum_congr ?_ fun _ _ => rfl
        ext c'
        rw [those, those, Finset.mem_filter, Finset.mem_filter]
        have := summed_all j c c' (by omega)
        exact ⟨fun _ => ⟨Finset.mem_univ _, this.1⟩, fun _ => ⟨Finset.mem_univ _, this.2⟩⟩
    · have hf : taken j c ((i 0).val / 16) = false := by simpa using ht
      obtain ⟨h1, h2⟩ := kept_held j c ⟨_, hb⟩ hi hf
      unfold step
      rw [put_of_not _ _ _ _ (fun h => ht ((mem_take j c i).mp h))]
      refine (ih (Nat.le_of_succ_le hn) c i h1).trans (Finset.sum_congr ?_ fun _ _ => rfl)
      ext c'
      rw [those, those, Finset.mem_filter, Finset.mem_filter]
      have e : summed ((i 0).val / 16 / 32) n c.val c'.val = summed ((i 0).val / 16 / 32) (n + 1) c.val c'.val := by
        unfold summed
        rw [Bool.eq_iff_iff, List.all_eq_true, List.all_eq_true]
        refine forall_congr' fun s => forall_congr' fun hs => ?_
        rw [← show decide (s < past ((i 0).val / 16 / 32) (n + 1)) = decide (s < past ((i 0).val / 16 / 32) n) from h2 ⟨s, List.mem_range.mp hs⟩]
      rw [e]

/-- At the end every device holds, at every element, the sum over all devices. -/
theorem V_total (c : Dev nD) (i : S1024x768.Idx) : V P 20 c i = (∑ c' : Dev nD, P c' i : EReal) := by
  have hi : (i 0).val < 1024 := (i 0).isLt
  refine (V_held P 20 le_rfl c i (held_end c ⟨_, by omega⟩)).trans (Finset.sum_congr ?_ fun _ _ => rfl)
  ext c'
  rw [those, Finset.mem_filter]
  exact ⟨fun _ => Finset.mem_univ _, fun _ => ⟨Finset.mem_univ _, summed_end ⟨(i 0).val / 16 / 32, by omega⟩ c c'⟩⟩

end Cert.KernelIdeal.Ex

end
-- ==== Proof.Algebraic.lean ====
/-
  The kernel computes what the reference computes: every device's result is the sum, over the 32 devices, of their own
  eight heads, and that is the reference's sum over all 256 heads cut into 32 pieces.
-/
module

public import proofs.«01_k».proof.Defs
public import proofs.«01_k».proof.Proof.Head
public import proofs.«01_k».proof.Proof.RefHead
public import proofs.«01_k».proof.Proof.Args
public import proofs.«01_k».proof.Proof.Total
public import proofs.«01_k».proof.Proof.Frames

@[expose] public section

set_option maxRecDepth 16384

noncomputable section

namespace Cert.KernelIdeal.Ex

open Idealize.ShloMosaic Idealize.SL.Sem Cert.KernelIdeal Cert.KernelIdeal.Gen
open Idealize.ShloMosaic.TcCoe
open Cert.Attn
open scoped BigOperators

variable (m : (ℓ : Loc nD τ sig) → Buf (Elt Ideal) ℓ)

/-- A device's own contribution, out of the arrays the program was launched with. -/
theorem part_apply (c : Dev nD) (b : Fin 2) (i : Fin 512) (n : Fin 768) :
    part m c (ix2 ⟨512 * b.val + i.val, by omega⟩ n)
      = ∑ t : Fin 512, term (fun a j => m (c.tc.loc main_arg0) (ix3 b a j)) (fun j e => m (c.tc.loc main_arg1) (ix2 j ⟨t.val / 64 * 64 + e.val, by omega⟩))
          (fun a e => m (c.tc.loc main_arg2) (ix4 b a ⟨8 * c.val + t.val / 64, by have := dev_lt c; omega⟩ e))
          (fun a e => m (c.tc.loc main_arg3) (ix4 b a ⟨8 * c.val + t.val / 64, by have := dev_lt c; omega⟩ e))
          (m (c.tc.loc main_arg4) (ix2 t n)) i ⟨t.val % 64, by omega⟩ := by
  have hx : ∀ (a : Fin 512) (j : Fin 768), inX m c (ix2 ⟨512 * b.val + a.val, by omega⟩ j) = m (c.tc.loc main_arg0) (ix3 b a j) := fun a j => by
    rw [inX_apply]
    have e1 : (⟨(512 * b.val + a.val) / 512, by omega⟩ : Fin 2) = b := Fin.ext (by show (512 * b.val + a.val) / 512 = b.val; omega)
    have e2 : (⟨(512 * b.val + a.val) % 512, by omega⟩ : Fin 512) = a := Fin.ext (by show (512 * b.val + a.val) % 512 = a.val; omega)
    simp only [e1, e2]
  unfold part
  rw [partialOut_apply]
  simp only [hx, inWq_apply, inWo_apply, inK_apply, inV_apply]

/-- A sum over 16384 columns is the sum over 32 devices of the sums over their 512 columns. -/
theorem sum_columns (f : Fin 16384 → EReal) :
    ∑ t, f t = ∑ c : Fin 32, ∑ t : Fin 512, f ⟨512 * c.val + t.val, by omega⟩ := by
  rw [← Finset.sum_product', Finset.univ_product_univ]
  refine (Fintype.sum_equiv (finProdFinEquiv (m := 32) (n := 512)) _ _ fun p => ?_).symm
  refine congrArg f (Fin.ext ?_)
  show 512 * p.1.val + p.2.val = p.2.val + 512 * p.1.val
  omega

/-- What is left after the run, at an element, when the arrays are the pieces of whole ones. -/
theorem result_apply (c : Dev nD) (x : S2x512x768.Idx → EReal) (wq : Cert.ReferenceIdeal.S768x16384.Idx → EReal) (k v : S2x512x256x64.Idx → EReal)
    (wo : Cert.ReferenceIdeal.S16384x768.Idx → EReal)
    (h0 : ∀ c : Dev nD, m (c.tc.loc main_arg0) = x)
    (h1 : ∀ (c : Dev nD) (j : Fin 768) (t : Fin 512), m (c.tc.loc main_arg1) (ix2 j t) = wq (ix2 j ⟨512 * c.val + t.val, by have := dev_lt c; omega⟩))
    (h2 : ∀ c : Dev nD, m (c.tc.loc main_arg2) = k) (h3 : ∀ c : Dev nD, m (c.tc.loc main_arg3) = v)
    (h4 : ∀ (c : Dev nD) (t : Fin 512) (n : Fin 768), m (c.tc.loc main_arg4) (ix2 t n) = wo (ix2 ⟨512 * c.val + t.val, by have := dev_lt c; omega⟩ n))
    (b : Fin 2) (i : Fin 512) (n : Fin 768) :
    (V3 m (outs m) c (Proc.devRef .tc main_v19) : S2x512x768.Idx → EReal) (ix3 b i n)
      = whole (fun b a j => x (ix3 b a j)) (fun j t => wq (ix2 j t)) (fun b a h e => k (ix4 b a h e)) (fun b a h e => v (ix4 b a h e))
          (fun t n => wo (ix2 t n)) b i n := by
  have hv : (V3 m (outs m) c (Proc.devRef .tc main_v19) : S2x512x768.Idx → EReal) (ix3 b i n) = total m c (ix2 ⟨512 * b.val + i.val, by omega⟩ n) := by
    rw [← V2_out m c]
    after_reads_at
    simp only [Nat.mul_comm]
  rw [hv, total_eq, V_total]
  unfold whole
  rw [sum_columns]
  refine Finset.sum_congr (M := EReal) rfl fun c' _ => ?_
  have hc := dev_lt c'
  rw [part_apply]
  refine Finset.sum_congr (M := EReal) rfl fun t _ => ?_
  have e1 : (512 * c'.val + t.val) / 64 = 8 * c'.val + t.val / 64 := by omega
  have e2 : (512 * c'.val + t.val) % 64 = t.val % 64 := by omega
  have e3 : ∀ e : Fin 64, 512 * c'.val + (t.val / 64 * 64 + e.val) = (8 * c'.val + t.val / 64) * 64 + e.val := fun e => by omega
  simp only [h0, h1, h2, h3, h4, e1, e2, e3]

end Cert.KernelIdeal.Ex

namespace Cert.Algebraic

open Idealize.ShloMosaic Idealize.SL.Sem
open Cert.KernelIdeal Cert.KernelIdeal.Gen Cert.KernelIdeal.Ex

/-- From arrays that are the pieces of the reference's, every device ends with the reference's result. -/
theorem algebraic : Cert.algebraic_KernelIdeal_ReferenceIdeal := by
  intro m g m' g' _ h
  refine ⟨Cert.ReferenceIdeal.Value.res_main_v33 m' 0, ?_, ?_⟩
  · refine (θ_run Cert.KernelIdeal.defs _ _).mono (fun r hr c => ⟨(hr.1 c).1.trans ?_, (hr.1 c).2⟩) (Cert.Frames.kernel (F := Ideal) m g)
    have hp : ∀ (b : Fin 2) (i : Fin 512) (n : Fin 768),
        (V3 m (outs m) c (Proc.devRef .tc main_v19) : S2x512x768.Idx → EReal) (ix3 b i n)
          = (Cert.ReferenceIdeal.Value.res_main_v33 m' 0 : S2x512x768.Idx → EReal) (ix3 b i n) := fun b i n => by
      rw [Cert.ReferenceIdeal.Value.res_apply]
      refine result_apply m c _ _ _ _ _ (fun c => (h c).1) (fun c j t => ?_) (fun c => (h c).2.2.1) (fun c => (h c).2.2.2.1) (fun c t n => ?_) b i n
      · rw [(h c).2.1]
        refine (Layout.block_apply ..).trans (congrArg _ (funext fun a => Fin.ext ?_))
        match a with
        | 0 => rfl
        | 1 => exact congrArg (· + t.val) (Nat.mul_comm _ _)
      · rw [(h c).2.2.2.2]
        refine (Layout.block_apply ..).trans (congrArg _ (funext fun a => Fin.ext ?_))
        match a with
        | 0 => exact congrArg (· + t.val) (Nat.mul_comm _ _)
        | 1 => rfl
    funext y
    have hy : y = ix3 (y 0) (y 1) (y 2) := funext fun a => by
      match a with
      | 0 => rfl
      | 1 => rfl
      | 2 => rfl
    rw [hy]
    exact hp _ _ _
  · exact (θ_run Cert.ReferenceIdeal.defs _ _).mono (fun r hr => hr 0) (Cert.ReferenceIdeal.Value.run (F := Ideal) m' g')

end Cert.Algebraic

end
-- ==== Proof.lean ====
/- The claims of the certificate, put together from the modules that prove them. -/
module

public import proofs.«01_k».proof.Defs
public import proofs.«01_k».proof.Proof.Gen.Kernel
public import proofs.«01_k».proof.Proof.Gen.KernelIdeal
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Frames.printed, Cert.Frames.ideal, Cert.Frames.reference, trivial, Cert.Algebraic.algebraic⟩

end Cert.Proof

end
